-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x200 : Shape := ⟨2, ![1024, 200]⟩
abbrev S1024 : Shape := ⟨1, ![1024]⟩
abbrev S1024x200x10 : Shape := ⟨3, ![1024, 200, 10]⟩
abbrev S1024x200x3 : Shape := ⟨3, ![1024, 200, 3]⟩
abbrev S100000x64 : Shape := ⟨2, ![100000, 64]⟩
abbrev S64x128 : Shape := ⟨2, ![64, 128]⟩
abbrev S10x128 : Shape := ⟨2, ![10, 128]⟩
abbrev S3x128 : Shape := ⟨2, ![3, 128]⟩
abbrev S128x10 : Shape := ⟨2, ![128, 10]⟩
abbrev S10 : Shape := ⟨1, ![10]⟩
abbrev S128x3 : Shape := ⟨2, ![128, 3]⟩
abbrev S3 : Shape := ⟨1, ![3]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : IVec S1024 32) (main_arg2 : FVec F S1024x200x10 .f32) (main_arg3 : FVec F S1024x200x3 .f32) (main_arg4 : FVec F S100000x64 .f32) (main_arg5 : FVec F S64x128 .f32) (main_arg6 : FVec F S10x128 .f32) (main_arg7 : FVec F S64x128 .f32) (main_arg8 : FVec F S3x128 .f32) (main_arg9 : FVec F S128x10 .f32) (main_arg10 : FVec F S10 .f32) (main_arg11 : FVec F S128x3 .f32) (main_arg12 : FVec F S3 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Kernel.lean ====
abbrev S1024x200 : Shape := ⟨2, ![1024, 200]⟩
abbrev S1024 : Shape := ⟨1, ![1024]⟩
abbrev S1024x200x10 : Shape := ⟨3, ![1024, 200, 10]⟩
abbrev S1024x200x3 : Shape := ⟨3, ![1024, 200, 3]⟩
abbrev S100000x64 : Shape := ⟨2, ![100000, 64]⟩
abbrev S64x128 : Shape := ⟨2, ![64, 128]⟩
abbrev S10x128 : Shape := ⟨2, ![10, 128]⟩
abbrev S3x128 : Shape := ⟨2, ![3, 128]⟩
abbrev S128x10 : Shape := ⟨2, ![128, 10]⟩
abbrev S10 : Shape := ⟨1, ![10]⟩
abbrev S128x3 : Shape := ⟨2, ![128, 3]⟩
abbrev S3 : Shape := ⟨1, ![3]⟩
abbrev S204800 : Shape := ⟨1, ![204800]⟩
abbrev S_ : Shape := ⟨0, ![]⟩
abbrev S100000x128 : Shape := ⟨2, ![100000, 128]⟩
abbrev S128x128 : Shape := ⟨2, ![128, 128]⟩
abbrev S204800x128 : Shape := ⟨2, ![204800, 128]⟩
abbrev S128 : Shape := ⟨1, ![128]⟩
abbrev S1024x1 : Shape := ⟨2, ![1024, 1]⟩
abbrev S204800x10 : Shape := ⟨2, ![204800, 10]⟩
abbrev S204800x3 : Shape := ⟨2, ![204800, 3]⟩
abbrev S1x10 : Shape := ⟨2, ![1, 10]⟩
abbrev S1x3 : Shape := ⟨2, ![1, 3]⟩
abbrev S1024x10 : Shape := ⟨2, ![1024, 10]⟩
abbrev S1024x3 : Shape := ⟨2, ![1024, 3]⟩
abbrev S8x1 : Shape := ⟨2, ![8, 1]⟩
abbrev S1600x128 : Shape := ⟨2, ![1600, 128]⟩
abbrev S1600x10 : Shape := ⟨2, ![1600, 10]⟩
abbrev S1600x3 : Shape := ⟨2, ![1600, 3]⟩
abbrev S8x10 : Shape := ⟨2, ![8, 10]⟩
abbrev S8x3 : Shape := ⟨2, ![8, 3]⟩
abbrev S8x1600 : Shape := ⟨2, ![8, 1600]⟩
abbrev S8x128 : Shape := ⟨2, ![8, 128]⟩

abbrev nBuf : Table → Nat
  | .hbm => 31
  | .local .tc .vmem => 20
  | .local .scVector .vmem => 2
  | _ => 0

abbrev bufTy : (tb : Table) → Fin (nBuf tb) → BufTy
  | .hbm, ⟨0, _⟩ => ⟨S1024x200, .i32⟩
  | .hbm, ⟨1, _⟩ => ⟨S1024, .i32⟩
  | .hbm, ⟨2, _⟩ => ⟨S1024x200x10, .f32⟩
  | .hbm, ⟨3, _⟩ => ⟨S1024x200x3, .f32⟩
  | .hbm, ⟨4, _⟩ => ⟨S100000x64, .f32⟩
  | .hbm, ⟨5, _⟩ => ⟨S64x128, .f32⟩
  | .hbm, ⟨6, _⟩ => ⟨S10x128, .f32⟩
  | .hbm, ⟨7, _⟩ => ⟨S64x128, .f32⟩
  | .hbm, ⟨8, _⟩ => ⟨S3x128, .f32⟩
  | .hbm, ⟨9, _⟩ => ⟨S128x10, .f32⟩
  | .hbm, ⟨10, _⟩ => ⟨S10, .f32⟩
  | .hbm, ⟨11, _⟩ => ⟨S128x3, .f32⟩
  | .hbm, ⟨12, _⟩ => ⟨S3, .f32⟩
  | .hbm, ⟨13, _⟩ => ⟨S204800, .i32⟩
  | .hbm, ⟨14, _⟩ => ⟨S_, .i32⟩
  | .hbm, ⟨15, _⟩ => ⟨S_, .f32⟩
  | .hbm, ⟨16, _⟩ => ⟨S100000x128, .f32⟩
  | .hbm, ⟨17, _⟩ => ⟨S_, .i32⟩
  | .hbm, ⟨18, _⟩ => ⟨S_, .f32⟩
  | .hbm, ⟨19, _⟩ => ⟨S128x128, .f32⟩
  | .hbm, ⟨20, _⟩ => ⟨S_, .i32⟩
  | .hbm, ⟨21, _⟩ => ⟨S_, .f32⟩
  | .hbm, ⟨22, _⟩ => ⟨S128x128, .f32⟩
  | .hbm, ⟨23, _⟩ => ⟨S204800x128, .f32⟩
  | .hbm, ⟨24, _⟩ => ⟨S1024x1, .i32⟩
  | .hbm, ⟨25, _⟩ => ⟨S204800x10, .f32⟩
  | .hbm, ⟨26, _⟩ => ⟨S204800x3, .f32⟩
  | .hbm, ⟨27, _⟩ => ⟨S1x10, .f32⟩
  | .hbm, ⟨28, _⟩ => ⟨S1x3, .f32⟩
  | .hbm, ⟨29, _⟩ => ⟨S1024x10, .f32⟩
  | .hbm, ⟨30, _⟩ => ⟨S1024x3, .f32⟩
  | .local .tc .vmem, ⟨0, _⟩ => ⟨S8x1, .i32⟩
  | .local .tc .vmem, ⟨1, _⟩ => ⟨S8x1, .i32⟩
  | .local .tc .vmem, ⟨2, _⟩ => ⟨S1600x128, .f32⟩
  | .local .tc .vmem, ⟨3, _⟩ => ⟨S1600x128, .f32⟩
  | .local .tc .vmem, ⟨4, _⟩ => ⟨S1600x10, .f32⟩
  | .local .tc .vmem, ⟨5, _⟩ => ⟨S1600x10, .f32⟩
  | .local .tc .vmem, ⟨6, _⟩ => ⟨S1600x3, .f32⟩
  | .local .tc .vmem, ⟨7, _⟩ => ⟨S1600x3, .f32⟩
  | .local .tc .vmem, ⟨8, _⟩ => ⟨S128x128, .f32⟩
  | .local .tc .vmem, ⟨9, _⟩ => ⟨S10x128, .f32⟩
  | .local .tc .vmem, ⟨10, _⟩ => ⟨S128x128, .f32⟩
  | .local .tc .vmem, ⟨11, _⟩ => ⟨S3x128, .f32⟩
  | .local .tc .vmem, ⟨12, _⟩ => ⟨S128x10, .f32⟩
  | .local .tc .vmem, ⟨13, _⟩ => ⟨S1x10, .f32⟩
  | .local .tc .vmem, ⟨14, _⟩ => ⟨S128x3, .f32⟩
  | .local .tc .vmem, ⟨15, _⟩ => ⟨S1x3, .f32⟩
  | .local .tc .vmem, ⟨16, _⟩ => ⟨S8x10, .f32⟩
  | .local .tc .vmem, ⟨17, _⟩ => ⟨S8x10, .f32⟩
  | .local .tc .vmem, ⟨18, _⟩ => ⟨S8x3, .f32⟩
  | .local .tc .vmem, ⟨19, _⟩ => ⟨S8x3, .f32⟩
  | .local .scVector .vmem, ⟨0, _⟩ => ⟨S128, .i32⟩
  | .local .scVector .vmem, ⟨1, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_call0_v0 : Ref sig .tc := ⟨.hbm, 15, rfl⟩
abbrev main_v1 : Ref sig .tc := ⟨.hbm, 16, rfl⟩
abbrev main_c_0 : Ref sig .tc := ⟨.hbm, 17, rfl⟩
abbrev main_call1_v0 : Ref sig .tc := ⟨.hbm, 18, rfl⟩
abbrev main_v2 : Ref sig .tc := ⟨.hbm, 19, rfl⟩
abbrev main_c_1 : Ref sig .tc := ⟨.hbm, 20, rfl⟩
abbrev main_call2_v0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev main_v0_scv : Ref sig .scVector := ⟨.hbm, 13, rfl⟩
abbrev main_v1_scv : Ref sig .scVector := ⟨.hbm, 16, rfl⟩
abbrev main_v4_scv : Ref sig .scVector := ⟨.hbm, 23, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg12_1 : Ref sig .tc := ⟨.vmem, 17, rfl⟩
abbrev cc1_stg13_0 : Ref sig .tc := ⟨.vmem, 18, rfl⟩
abbrev cc1_stg13_1 : Ref sig .tc := ⟨.vmem, 19, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem12_1 : DmaSem sig := 20
abbrev cc1_sem13_0 : DmaSem sig := 21
abbrev cc1_sem13_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c50_i32 : BitVec 32 := 50#32
  let v3 : BitVec 32 := Scalar.addi c0_i32_0 c50_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6400_i32 : BitVec 32 := 6400#32
  let v2 : BitVec 32 := Scalar.muli v1 c6400_i32
  let c0_i32_0 : BitVec 32 := 0#32
  let c1_i32 : BitVec 32 := 1#32
  let arg8 : BitVec 32 := Scf.iv c0_i32_0 c1_i32 k0_t1
  let c128_i32 : BitVec 32 := 128#32
  let v4 : BitVec 32 := Scalar.muli arg8 c128_i32
  let v5 : BitVec 32 := Scalar.addi v2 v4
  let c0_i32_6_r1 : BitVec 32 := 0#32
  ![v5.toNat, 0]
abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1600x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1600x10 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1600x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x10 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x10 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x3 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x3 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S8x10 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S8x3 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x200 : Shape := ⟨2, ![1024, 200]⟩
abbrev S1024 : Shape := ⟨1, ![1024]⟩
abbrev S1024x200x10 : Shape := ⟨3, ![1024, 200, 10]⟩
abbrev S1024x200x3 : Shape := ⟨3, ![1024, 200, 3]⟩
abbrev S100000x64 : Shape := ⟨2, ![100000, 64]⟩
abbrev S64x128 : Shape := ⟨2, ![64, 128]⟩
abbrev S10x128 : Shape := ⟨2, ![10, 128]⟩
abbrev S3x128 : Shape := ⟨2, ![3, 128]⟩
abbrev S128x10 : Shape := ⟨2, ![128, 10]⟩
abbrev S10 : Shape := ⟨1, ![10]⟩
abbrev S128x3 : Shape := ⟨2, ![128, 3]⟩
abbrev S3 : Shape := ⟨1, ![3]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x64 : Shape := ⟨3, ![1024, 200, 64]⟩
abbrev S200 : Shape := ⟨1, ![200]⟩
abbrev S1x200 : Shape := ⟨2, ![1, 200]⟩
abbrev S1024x1 : Shape := ⟨2, ![1024, 1]⟩
abbrev S1024x200x128 : Shape := ⟨3, ![1024, 200, 128]⟩
abbrev S1024x128 : Shape := ⟨2, ![1024, 128]⟩
abbrev S1024x10 : Shape := ⟨2, ![1024, 10]⟩
abbrev S1x10 : Shape := ⟨2, ![1, 10]⟩
abbrev S1024x3 : Shape := ⟨2, ![1024, 3]⟩
abbrev S1x3 : Shape := ⟨2, ![1, 3]⟩

abbrev nBuf : Space → Nat
  | .hbm => 78
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S1024, .i32⟩
  | .hbm, ⟨2, _⟩ => ⟨S1024x200x10, .f32⟩
  | .hbm, ⟨3, _⟩ => ⟨S1024x200x3, .f32⟩
  | .hbm, ⟨4, _⟩ => ⟨S100000x64, .f32⟩
  | .hbm, ⟨5, _⟩ => ⟨S64x128, .f32⟩
  | .hbm, ⟨6, _⟩ => ⟨S10x128, .f32⟩
  | .hbm, ⟨7, _⟩ => ⟨S64x128, .f32⟩
  | .hbm, ⟨8, _⟩ => ⟨S3x128, .f32⟩
  | .hbm, ⟨9, _⟩ => ⟨S128x10, .f32⟩
  | .hbm, ⟨10, _⟩ => ⟨S10, .f32⟩
  | .hbm, ⟨11, _⟩ => ⟨S128x3, .f32⟩
  | .hbm, ⟨12, _⟩ => ⟨S3, .f32⟩
  | .hbm, ⟨13, _⟩ => ⟨S_, .i32⟩
  | .hbm, ⟨14, _⟩ => ⟨S1024x200, .i32⟩
  | .hbm, ⟨15, _⟩ => ⟨S1024x200, .i1⟩
  | .hbm, ⟨16, _⟩ => ⟨S_, .i32⟩
  | .hbm, ⟨17, _⟩ => ⟨S1024x200, .i32⟩
  | .hbm, ⟨18, _⟩ => ⟨S1024x200, .i32⟩
  | .hbm, ⟨19, _⟩ => ⟨S1024x200, .i32⟩
  | .hbm, ⟨20, _⟩ => ⟨S1024x200x1, .i32⟩
  | .hbm, ⟨21, _⟩ => ⟨S1, .i32⟩
  | .hbm, ⟨22, _⟩ => ⟨S_, .i32⟩
  | .hbm, ⟨23, _⟩ => ⟨S1024x200x1, .i32⟩
  | .hbm, ⟨24, _⟩ => ⟨S1024x200x1, .i1⟩
  | .hbm, ⟨25, _⟩ => ⟨S1x1x1, .i32⟩
  | .hbm, ⟨26, _⟩ => ⟨S1024x200x1, .i32⟩
  | .hbm, ⟨27, _⟩ => ⟨S1024x200x1, .i1⟩
  | .hbm, ⟨28, _⟩ => ⟨S1024x200x1, .i1⟩
  | .hbm, ⟨29, _⟩ => ⟨S_, .i1⟩
  | .hbm, ⟨30, _⟩ => ⟨S1024x200, .i1⟩
  | .hbm, ⟨31, _⟩ => ⟨S1024x200x64, .f32⟩
  | .hbm, ⟨32, _⟩ => ⟨S1024x200x64, .i1⟩
  | .hbm, ⟨33, _⟩ => ⟨S_, .f32⟩
  | .hbm, ⟨34, _⟩ => ⟨S1024x200x64, .f32⟩
  | .hbm, ⟨35, _⟩ => ⟨S1024x200x64, .f32⟩
  | .hbm, ⟨36, _⟩ => ⟨S200, .i32⟩
  | .hbm, ⟨37, _⟩ => ⟨S1x200, .i32⟩
  | .hbm, ⟨38, _⟩ => ⟨S1024x1, .i32⟩
  | .hbm, ⟨39, _⟩ => ⟨S1024x200, .i32⟩
  | .hbm, ⟨40, _⟩ => ⟨S1024x200, .i32⟩
  | .hbm, ⟨41, _⟩ => ⟨S1024x200, .i1⟩
  | .hbm, ⟨42, _⟩ => ⟨S1024x200, .f32⟩
  | .hbm, ⟨43, _⟩ => ⟨S1024x200x128, .f32⟩
  | .hbm, ⟨44, _⟩ => ⟨S1024x200x128, .f32⟩
  | .hbm, ⟨45, _⟩ => ⟨S1024x200x128, .f32⟩
  | .hbm, ⟨46, _⟩ => ⟨S1024x200x128, .f32⟩
  | .hbm, ⟨47, _⟩ => ⟨S1024x200x128, .f32⟩
  | .hbm, ⟨48, _⟩ => ⟨S1024x200x128, .f32⟩
  | .hbm, ⟨49, _⟩ => ⟨S1024x200x128, .f32⟩
  | .hbm, ⟨50, _⟩ => ⟨S1024x200x128, .f32⟩
  | .hbm, ⟨51, _⟩ => ⟨S1024x200x1, .f32⟩
  | .hbm, ⟨52, _⟩ => ⟨S1024x200x128, .f32⟩
  | .hbm, ⟨53, _⟩ => ⟨S1024x200x128, .f32⟩
  | .hbm, ⟨54, _⟩ => ⟨S1024x200x1, .f32⟩
  | .hbm, ⟨55, _⟩ => ⟨S1024x200x128, .f32⟩
  | .hbm, ⟨56, _⟩ => ⟨S1024x200x128, .f32⟩
  | .hbm, ⟨57, _⟩ => ⟨S1024, .f32⟩
  | .hbm, ⟨58, _⟩ => ⟨S_, .f32⟩
  | .hbm, ⟨59, _⟩ => ⟨S1024, .f32⟩
  | .hbm, ⟨60, _⟩ => ⟨S1024, .f32⟩
  | .hbm, ⟨61, _⟩ => ⟨S1024x1, .f32⟩
  | .hbm, ⟨62, _⟩ => ⟨S_, .f32⟩
  | .hbm, ⟨63, _⟩ => ⟨S1024x128, .f32⟩
  | .hbm, ⟨64, _⟩ => ⟨S1024x128, .f32⟩
  | .hbm, ⟨65, _⟩ => ⟨S1024x128, .f32⟩
  | .hbm, ⟨66, _⟩ => ⟨S_, .f32⟩
  | .hbm, ⟨67, _⟩ => ⟨S1024x128, .f32⟩
  | .hbm, ⟨68, _⟩ => ⟨S1024x128, .f32⟩
  | .hbm, ⟨69, _⟩ => ⟨S1024x128, .f32⟩
  | .hbm, ⟨70, _⟩ => ⟨S1024x10, .f32⟩
  | .hbm, ⟨71, _⟩ => ⟨S1x10, .f32⟩
  | .hbm, ⟨72, _⟩ => ⟨S1024x10, .f32⟩
  | .hbm, ⟨73, _⟩ => ⟨S1024x10, .f32⟩
  | .hbm, ⟨74, _⟩ => ⟨S1024x3, .f32⟩
  | .hbm, ⟨75, _⟩ => ⟨S1x3, .f32⟩
  | .hbm, ⟨76, _⟩ => ⟨S1024x3, .f32⟩
  | .hbm, ⟨77, _⟩ => ⟨S1024x3, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_cst : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_cst_0 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_cst_1 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩

abbrev nD : Nat := 1
abbrev τ : Topo := Topo.v7x

variable {F : FTy → Type} [FloatOps F]
-- ==== Proof.Tokens.lean ====
/-
  What the precondition says of the token argument: every token, read as a signed word, lies between 0 and 100000; so, as a
  number, it is below 100000.
-/
module

public import proofs.«01_k».proof.Defs
public import proofs.«01_k».proof.Proof.Gen.Pre_in_range
public import Idealize.ShloMosaic.Lib.ReduceAll
public import Idealize.ShloMosaic.Lib.Affine

@[expose] public section

noncomputable section

namespace Cert.Proof

open Idealize.ShloMosaic Cert.Pre_in_range Cert.Pre_in_range.Gen

instance : Subsingleton S_.Idx := ⟨fun a b => funext fun k => k.elim0⟩

/-- A word between 0 and 100000 as a signed word is below 100000 as a number. -/
theorem toNat_lt_of_signed {w : BitVec 32} (h0 : 0 ≤ w.toInt) (h1 : w.toInt < 100000) : w.toNat < 100000 := by
  rw [BitVec.toInt_eq_toNat_cond] at h0 h1
  split at h0 <;> omega

theorem token_lt {F : FTy → Type} [FloatOps F] {token : IVec S1024x200 32} {a1 : IVec S1024 32} {a2 : FVec F S1024x200x10 .f32} {a3 : FVec F S1024x200x3 .f32}
    {a4 : FVec F S100000x64 .f32} {a5 : FVec F S64x128 .f32} {a6 : FVec F S10x128 .f32} {a7 : FVec F S64x128 .f32} {a8 : FVec F S3x128 .f32}
    {a9 : FVec F S128x10 .f32} {a10 : FVec F S10 .f32} {a11 : FVec F S128x3 .f32} {a12 : FVec F S3 .f32}
    (h : Cert.Pre_in_range.fn token a1 a2 a3 a4 a5 a6 a7 a8 a9 a10 a11 a12 = fun _ => 1#1) (i : S1024x200.Idx) : (token i).toNat < 100000 := by
  have e := congrFun h (fun k => k.elim0)
  dsimp only [Cert.Pre_in_range.fn] at e
  have e' := Host.reduce_andi_all _ _ _ _ _ e i
  obtain ⟨e0, e1⟩ := IntOp.andi_eq_one.mp e'
  exact toNat_lt_of_signed (IntOp.cmpi_sge.mp e0) (IntOp.cmpi_slt.mp e1)

end Cert.Proof

end
-- ==== Proof.KernelIdealRun.Base.lean ====
/-
  The program as its proof sees it: the labels and body tables, the ghost algebra (the SparseCore call's handshakes, the
  TensorCore pipeline's rounds, the transfers' counters), the buffers of the gather, and what the gather leaves.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels the SparseCore layer sits on: the pipeline's. -/
abbrev ΛP : Labels := Pipeline.Sig Λ₀ (Fin 1) fun p => (pcfgs (F := F) p).Adm
/-- The program's SparseCore calls. -/
abbrev K : SparseCore.Cfg τ sig (ΛP (F := F)) 1 := sc (F := F)
/-- The body table below the SparseCore layer. -/
abbrev D [FloatOps F] : Defs nD τ sig (Elt F) (ΛP (F := F)) := Pipeline.defs pcfgs defs₀
/-- No kernel body recurses: no variants. -/
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra -/

/-- The handshakes' rounds … -/
abbrev UH : Type := URounds (GSem nD τ sig) ℕ
/-- … the pipeline's rounds … -/
abbrev UP : Type := UR sig nD τ
/-- … and both with the transfers' counters. -/
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds library: the left half of the right factor. -/
def EP : Emb UP (MT nD τ sig (HIx 1) (Elt F) ℕ UU ℕ) :=
  (Emb.inl : Emb UP (UP × Counters)).trans embR
instance EP_landsIn : (EP : Emb UP 𝕄).LandsIn (upEmb : UEmb _ 𝕄) := by unfold EP; infer_instance

/-! ## The gather's buffers -/

/-- The flat token list, the padded table and the gathered rows, on device `d`. -/
abbrev iLoc (d : Dev nD) : Loc nD τ sig := (SparseCore.T d).loc main_v0
abbrev xLoc (d : Dev nD) : Loc nD τ sig := (SparseCore.T d).loc main_v1
abbrev oLoc (d : Dev nD) : Loc nD τ sig := (SparseCore.T d).loc main_v4

/-- A table row for a token word: the word where it is a row number, row 0 elsewhere. -/
def rowAt (w : BitVec 32) : Fin 100000 := if h : w.toNat < 100000 then ⟨w.toNat, h⟩ else 0

/-- What the gather leaves: row `r` is the table's row at token `r`. -/
def gathered (ids : S204800.Idx → BitVec 32) (tab : S100000x128.Idx → Elt F .f32) : S204800x128.Idx → Elt F .f32 :=
  fun x => tab fun
    | 0 => rowAt (ids fun | 0 => x 0)
    | 1 => x 1

/-- The rows of one worker, numbered `w`: 6400 consecutive ones. -/
def rowsOf (w : ℕ) : Finset S204800x128.Idx := Finset.univ.filter fun x => (x 0).val / 6400 = w

/-- The rows after `t` of a worker's chunks of 128: those below `n` gathered, the rest as before. -/
def upTo (ids : S204800.Idx → BitVec 32) (tab : S100000x128.Idx → Elt F .f32) (old : S204800x128.Idx → Elt F .f32) (n : ℕ) :
    S204800x128.Idx → Elt F .f32 :=
  fun x => if (x 0).val < n then gathered ids tab x else old x

end Cert.Proof.KernelIdealRun

end
-- ==== Proof.KernelIdealRun.Gather.lean ====
/-
  One tile's task: fifty chunks of 128 rows, each fetched as a list of tokens, gathered from the table and written out.
  The task leaves its 6400 rows of the output at `gathered`.
-/
module

public import proofs.«01_k».proof.Proof.KernelIdealRun.Base

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tokens, as a tile sees them, -/
abbrev iV : Memref sig .scVector .hbm S204800 .i32 := Memref.whole main_v0_scv
/-- the padded table, -/
abbrev xV : Memref sig .scVector .hbm S100000x128 .f32 := Memref.whole main_v1_scv
/-- the gathered rows, -/
abbrev oV : Memref sig .scVector .hbm S204800x128 .f32 := Memref.whole main_v4_scv
/-- the tile's list of 128 tokens, -/
abbrev sV : Memref sig .scVector .vmem S128 .i32 := Memref.whole cc0_scratch0
/-- and its 128 rows. -/
abbrev rV : Memref sig .scVector .vmem S128x128 .f32 := Memref.whole cc0_scratch1

/-! ## The tile and its chunks -/

variable (d : Dev nD) (L : grid0.Coords) (t : Fin k0_t1_loop.trips)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

/-- The worker's number among the thirty-two. -/
def worker (L : grid0.Coords) : ℕ := 2 * (L 1).val + (L 0).val
/-- The first row of the worker's chunk `n`. -/
def chunkLo (L : grid0.Coords) (n : ℕ) : ℕ := 6400 * worker L + 128 * n

theorem trips_eq : k0_t1_loop.trips = 50 := by decide

abbrev iChunk : Memref sig .scVector .hbm S128 .i32 :=
  (iV).slice (Rect.unit (s := S204800) (k0_off1 L t) S128.size (k0_off1_inb L t)) (fun _ => rfl)
abbrev oChunk : Memref sig .scVector .hbm S128x128 .f32 :=
  (oV).slice (Rect.unit (s := S204800x128) (k0_off2 L t) S128x128.size (k0_off2_inb L t)) (fun _ => rfl)
abbrev xAll : Memref sig .scVector .hbm S100000x128 .f32 :=
  (xV).slice (Rect.unit (s := S100000x128) ![0, 0] S100000x128.size inb_S100000x128_S100000x128_0_0) (fun _ => rfl)

theorem off1_zero : k0_off1 L t 0 = chunkLo L t.val := by
  rw [k0_off1_eq]; simp [chunkLo, worker]; omega
theorem off2_zero : k0_off2 L t 0 = chunkLo L t.val := by
  rw [k0_off2_eq]; simp [chunkLo, worker]; omega
theorem off2_one : k0_off2 L t 1 = 0 := by rw [k0_off2_eq]; rfl

/-- The rows of chunk `t`. -/
theorem mem_oChunk (x : S204800x128.Idx) :
    x ∈ (oChunk L t).view.set ↔ chunkLo L t.val ≤ (x 0).val ∧ (x 0).val < chunkLo L t.val + 128 := by
  have e : (oChunk L t).view.set = (Rect.unit (s := S204800x128) (k0_off2 L t) S128x128.size (k0_off2_inb L t)).set := by
    show ((View.whole (main_v4_scv : Ref sig .scVector)).slice _).set = _
    rw [View.set_slice]; exact Finset.map_refl
  rw [e, Rect.mem_set_unit]
  have h1 : (x 1).val < 128 := (x 1).isLt
  constructor
  · intro h; have := h 0; rw [off2_zero] at this; exact this
  · intro h a
    match a with
    | 0 => rw [off2_zero]; exact h
    | 1 => rw [off2_one]; exact ⟨Nat.zero_le _, by show (x 1).val < 0 + 128; omega⟩

theorem oChunk_sub : (oChunk L t).view.set ⊆ rowsOf (worker L) := by
  intro x hx
  have h := (mem_oChunk L t x).mp hx
  have ht : t.val < 50 := trips_eq ▸ t.isLt
  refine Finset.mem_filter.mpr ⟨Finset.mem_univ _, ?_⟩
  unfold chunkLo at h
  omega

variable [FloatOps F]
variable (ids : S204800.Idx → BitVec 32) (tab : S100000x128.Idx → Elt F .f32) (old : S204800x128.Idx → Elt F .f32)

theorem inb_list (hid : ∀ j, (ids j).toNat < 100000) (fs : Buf (Elt F) ((thr d L).loc cc0_scratch0)) :
    ∀ x, ((sV).view.read (Elt F) (View.write (Elt F) (sV).view fs ((iChunk L t).view.read (Elt F) ids) Finset.univ) x).toNat
      < S100000x128.size gathers_S100000x128_S128x128.axis := by
  intro x
  rw [View.write_whole_univ]
  simp only [Memref.view_whole, View.read_whole]
  rw [show ∀ j, (iChunk L t).view.read (Elt F) ids j = ids ((iChunk L t).view.emb j) from fun j => (View.read_apply _ _).trans (cast_eq _ _)]
  exact hid _

/-- What the list's buffer holds once the tokens of chunk `t` have landed, … -/
abbrev list (fs : Buf (Elt F) ((thr d L).loc cc0_scratch0)) : S128.Idx → BitVec 32 :=
  (sV).view.read (Elt F) (View.write (Elt F) (sV).view fs ((iChunk L t).view.read (Elt F) ids) Finset.univ)

/-- … entry by entry. -/
theorem list_apply (fs : Buf (Elt F) ((thr d L).loc cc0_scratch0)) (y : S128.Idx) (x : S204800.Idx)
    (h : (x 0).val = chunkLo L t.val + (y 0).val) : list (F := F) d L t ids fs y = ids x := by
  unfold list
  rw [View.write_whole_univ]
  simp only [Memref.view_whole, View.read_whole]
  rw [show ∀ j, (iChunk L t).view.read (Elt F) ids j = ids ((iChunk L t).view.emb j) from fun j => (View.read_apply _ _).trans (cast_eq _ _)]
  refine congrArg ids (funext fun a => ?_)
  match a with
  | 0 =>
    refine Fin.ext ?_
    rw [h, ← off1_zero L t]
    show k0_off1 L t 0 + 1 * (y 0).val = _
    omega

/-- The chunk's rows as the gather leaves them are the rows `gathered` names. -/
theorem chunk_value (hid : ∀ j, (ids j).toNat < 100000) (fs : Buf (Elt F) ((thr d L).loc cc0_scratch0))
    (hin : ∀ x, (list (F := F) d L t ids fs x).toNat < S100000x128.size gathers_S100000x128_S128x128.axis) (y : S128x128.Idx) :
    SparseCore.gatherPayload (F := F) gathers_S100000x128_S128x128 ((xAll).view.read (Elt F) tab)
        (SparseCore.rows (F := F) (list (F := F) d L t ids fs) rfl hin) y
      = gathered ids tab ((oChunk L t).view.emb y) := by
  unfold SparseCore.gatherPayload gathered
  refine ((View.read_apply _ _).trans (cast_eq _ _)).trans ?_
  refine congrArg tab (funext fun a => Fin.ext ?_)
  match a with
  | 0 =>
    have e : (list (F := F) d L t ids fs (S128.rowMajor.symm ((y 0).cast rfl))) = ids fun | 0 => (oChunk L t).view.emb y 0 := by
      refine list_apply d L t ids fs _ _ ?_
      show k0_off2 L t 0 + 1 * (y 0).val = _
      have e1 : (S128.rowMajor.symm ((y 0).cast rfl) 0).val = (y 0).val := by
        have h := Shape.rowMajor_val_one (S128.rowMajor.symm ((y 0).cast rfl))
        rw [Equiv.apply_symm_apply] at h
        exact h.symm
      rw [off2_zero, e1]
      omega
    show 0 + 1 * (list (F := F) d L t ids fs (S128.rowMajor.symm ((y 0).cast rfl))).toNat = _
    rw [e, rowAt, dif_pos (hid _)]
    exact (Nat.zero_add _).trans (Nat.one_mul _)
  | 1 =>
    show 0 + 1 * (y 1).val = k0_off2 L t 1 + 1 * (y 1).val
    rw [off2_one]

/-- What a trip starts and ends with. -/
def held (O : CellTallies nD τ sig (HIx 1)) (W : Waits sig (HIx 1)) (qi qx : PosShare TreeShare) (n : ℕ) : sProp 𝕄 :=
  iprop(Transfers.MayWaits (thr d L) (default : HIx 1) O
    ∗ ((iV).view.loc (thr d L) ↦{qi} ids) ∗ ((xV).view.loc (thr d L) ↦{qx} tab)
    ∗ (oLoc d ↦[rowsOf (worker L)]{fullShare} upTo ids tab old (chunkLo L n))
    ∗ (∃ f, (sV).view.loc (thr d L) ↦{fullShare} f) ∗ (∃ f, (rV).view.loc (thr d L) ↦{fullShare} f)
    ∗ semVal (thr d L, SemLoc.dma cc0_scratch2.sem) 0 ∗ semVal (thr d L, SemLoc.dma cc0_scoped0.sem) 0
    ∗ semVal (thr d L, SemLoc.dma cc0_scoped1.sem) 0
    ∗ ∃ W', ⌜∀ p ∈ W', p ∈ W ∨ p.2 = none⌝ ∗ owes (thr d L) O W')

set_option maxHeartbeats 4000000 in
theorem trip (hid : ∀ j, (ids j).toNat < 100000) (O : CellTallies nD τ sig (HIx 1)) (W : Waits sig (HIx 1)) (qi qx : PosShare TreeShare) :
    held (F := F) d L ids tab old O W qi qx t.val
      ⊢ wp frame (wpE (defs₀ (F := F)) 𝒱₀ (thr d L) none) Set.univ
          (k0_t1_body (F := F) L iV (Memref.isWhole_whole _) xV (Memref.isWhole_whole _) oV (Memref.isWhole_whole _)
            sV (Memref.isWhole_whole _) rV (Memref.isWhole_whole _) cc0_scratch2 cc0_scoped0 cc0_scoped1 t ⟨⟩)
          fun _ => held (F := F) d L ids tab old O W qi qx (t.val + 1) := by
  unfold held k0_t1_body
  iintro ⟨#Hmw, Hi, Hx, Ho, ⟨%fs, Hs⟩, ⟨%fr, Hr⟩, HsemA, HsemB, HsemC, %W', %hW', HO⟩
  ihave Ho' := (pointsTo_split_subset (oChunk_sub L t)).1 $$ Ho
  icases Ho' with ⟨Hoc, Hor⟩
  have hin := inb_list (F := F) d L t ids hid
  ihave Hoc' := (show (oLoc d ↦[(oChunk L t).view.set]{fullShare} upTo ids tab old (chunkLo L t.val) : sProp 𝕄)
    ⊢ (oChunk L t).view.loc (thr d L) ↦[(oChunk L t).view.set]{fullShare} upTo ids tab old (chunkLo L t.val) from .rfl) $$ Hoc
  sl_exec
  sl_step
  have hchunk : ∀ x ∈ (oChunk L t).view.set,
      (oChunk L t).view.writes (Elt F) (upTo ids tab old (chunkLo L t.val))
          [⟨Rect.whole S128x128, trip.sl.dma0_1 d L t ids tab fs fr hin⟩] x
        = upTo ids tab old (chunkLo L (t.val + 1)) x := by
    intro x hx
    have hb := (mem_oChunk L t x).mp hx
    obtain ⟨y, -, rfl⟩ := Finset.mem_map.mp hx
    have h1 := View.read_writes_cons_emb (Val := Elt F) (oChunk L t).view (upTo ids tab old (chunkLo L t.val)) (Rect.whole S128x128)
      (trip.sl.dma0_1 d L t ids tab fs fr hin) [] y
    have h2 : trip.sl.dma0_1 d L t ids tab fs fr hin y = _ :=
      (congrArg (trip.sl.dma0_1 d L t ids tab fs fr hin) (Rect.emb_whole_apply S128x128 y).symm).trans
        (View.read_writes_cons_emb (Val := Elt F) (rV).view fr (Rect.whole S128x128) (trip.sl.gather1 d L t ids tab fs hin) [] y)
    rw [Rect.emb_whole_apply] at h1
    refine ((View.read_apply _ _).trans (cast_eq _ _)).symm.trans (h1.trans (h2.trans ?_))
    refine (chunk_value d L t ids tab hid fs (hin fs) y).trans ?_
    unfold upTo
    rw [if_pos]
    have : chunkLo L (t.val + 1) = chunkLo L t.val + 128 := by unfold chunkLo; omega
    omega
  have hrest : ∀ x ∈ rowsOf (worker L) \ (oChunk L t).view.set,
      upTo ids tab old (chunkLo L t.val) x = upTo ids tab old (chunkLo L (t.val + 1)) x := by
    intro x hx
    have hn := mt (mem_oChunk L t x).mpr (Finset.mem_sdiff.mp hx).2
    have : chunkLo L (t.val + 1) = chunkLo L t.val + 128 := by unfold chunkLo; omega
    unfold upTo
    by_cases h : (x 0).val < chunkLo L t.val
    · rw [if_pos h, if_pos (by omega)]
    · rw [if_neg h, if_neg (by omega)]
  ihave Hoc := (Entails.of_eq (pointsTo_congr (ℓ := oLoc d) (I := (oChunk L t).view.set) hchunk)) $$ Hoc'
  ihave Hor' := (Entails.of_eq (pointsTo_congr (ℓ := oLoc d) hrest)) $$ Hor
  isplitr; · iexact Hmw
  isplitl [Hi]; · iexact Hi
  isplitl [Hx]; · iexact Hx
  isplitl [Hoc Hor']
  · iapply (pointsTo_split_subset (oChunk_sub L t)).2
    isplitl [Hoc] <;> iassumption
  isplitl [Hs]; · iexists _; iexact Hs
  isplitl [Hr]; · iexists _; iexact Hr
  isplitl [HsemA]; · iexact HsemA
  isplitl [HsemB]; · iexact HsemB
  isplitl [HsemC]; · iexact HsemC
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The task -/

/-- Before the first chunk nothing is gathered, … -/
theorem upTo_zero : ∀ x ∈ rowsOf (worker L), old x = upTo ids tab old (chunkLo L 0) x := by
  intro x hx
  have h := (Finset.mem_filter.mp hx).2
  unfold upTo
  rw [if_neg]
  unfold chunkLo
  omega

/-- … after the fiftieth all of the worker's rows are. -/
theorem upTo_last : ∀ x ∈ rowsOf (worker L), upTo ids tab old (chunkLo L k0_t1_loop.trips) x = gathered ids tab x := by
  intro x hx
  have h := (Finset.mem_filter.mp hx).2
  unfold upTo
  rw [if_pos]
  rw [trips_eq]; unfold chunkLo
  omega

theorem starts : (oLoc d ↦[rowsOf (worker L)]{fullShare} old : sProp 𝕄)
    = oLoc d ↦[rowsOf (worker L)]{fullShare} upTo ids tab old (chunkLo L 0) := pointsTo_congr (upTo_zero L ids tab old)
theorem ends : (oLoc d ↦[rowsOf (worker L)]{fullShare} upTo ids tab old (chunkLo L k0_t1_loop.trips) : sProp 𝕄)
    = oLoc d ↦[rowsOf (worker L)]{fullShare} gathered ids tab := pointsTo_congr (upTo_last L ids tab old)

abbrev cell (s : DmaSem sig) : GSem nD τ sig := (thr d L, .dma s)

omit [FloatOps F] in
/-- The three counters the task uses are among the tile's own. -/
theorem ownSems0_tile :
    (ownSems0 (thr d L) : sProp 𝕄)
      = iprop(semVal (cell d L cc0_scratch2.sem) 0 ∗ semVal (cell d L cc0_scoped0.sem) 0 ∗ semVal (cell d L cc0_scoped1.sem) 0
          ∗ bigSep ((((ownCells (thr d L)).erase (cell d L cc0_scratch2.sem)).erase (cell d L cc0_scoped0.sem)).erase (cell d L cc0_scoped1.sem)) fun g => semVal g 0) := by
  have hm : ∀ s : DmaSem sig, (SemLoc.dma s : SemLoc sig).isScoped .scVector = true → cell d L s ∈ ownCells (thr d L) :=
    fun s h => mem_ownCells.mpr ⟨rfl, h⟩
  have hne : ∀ s s' : DmaSem sig, s ≠ s' → cell d L s ≠ cell d L s' := fun s s' h e => h (by simpa [cell] using e)
  unfold SparseCore.Cfg.ownSems0
  rw [SparseCore.bigSep_erase' (hm cc0_scratch2.sem (by decide)),
    SparseCore.bigSep_erase' (Finset.mem_erase.mpr ⟨hne _ _ (by decide), hm cc0_scoped0.sem (by decide)⟩),
    SparseCore.bigSep_erase' (Finset.mem_erase.mpr ⟨hne _ _ (by decide),
      Finset.mem_erase.mpr ⟨hne _ _ (by decide), hm cc0_scoped1.sem (by decide)⟩⟩)]

omit [FloatOps F] in
/-- The list's and the rows' scratch buffers are among the tile's own. -/
theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The loop's invariant: before trip `n`, the first `n` chunks are gathered. -/
def trips (O : CellTallies nD τ sig (HIx 1)) (W : Waits sig (HIx 1)) (qi qx : PosShare TreeShare) (n : ℕ) (_ : PUnit) : sProp 𝕄 :=
  held (F := F) d L ids tab old O W qi qx n

set_option maxHeartbeats 4000000 in
/-- The task of tile `L`: given shares of the token list and of the table, and its own rows of the output, it leaves
    those rows gathered. -/
theorem task (hF : (K (F := F)).Facts) (hid : ∀ j, (ids j).toNat < 100000) (O : CellTallies nD τ sig (HIx 1)) (W : Waits sig (HIx 1))
    (hO : ∀ g, O g none = 0) (qi qx : PosShare TreeShare) :
    iprop(levAts (K (F := F)).L (K (F := F)).lev ∗ emp
        ∗ ((iLoc d ↦{qi} ids) ∗ (xLoc d ↦{qx} tab) ∗ (oLoc d ↦[rowsOf (worker L)]{fullShare} old))
        ∗ scopedBufs (thr d L) ∗ scopedSems0 (thr d L) ∗ owes (thr d L) O W : sProp 𝕄)
      ⊢ wp frame (wpE (defs₀ (F := F)) 𝒱₀ (thr d L) none) Set.univ
          (cc0_gather_kernel L iV (Memref.isWhole_whole _) xV (Memref.isWhole_whole _) oV (Memref.isWhole_whole _)
            sV (Memref.isWhole_whole _) rV (Memref.isWhole_whole _) cc0_scratch2 cc0_scoped0 cc0_scoped1)
          fun _ => iprop(((iLoc d ↦{qi} ids) ∗ (xLoc d ↦{qx} tab) ∗ (oLoc d ↦[rowsOf (worker L)]{fullShare} gathered ids tab))
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  rw [(K (F := F)).scopedBufs_V hF d (cV L) (jV L), SparseCore.Cfg.scopedSems0_V (Val := Elt F) d (cV L) (jV L), ownSems0_tile, ownBufs_tile]
  iintro ⟨#Hlv, -, ⟨Hi, Hx, Ho⟩, ⟨Hs, Hr, Hbufs⟩, ⟨HsemA, HsemB, HsemC, Hsems⟩, HO⟩
  ihave Hmw := (show levAts (K (F := F)).L (K (F := F)).lev ⊢ Transfers.MayWaits (thr d L) (default : HIx 1) O from
    (K (F := F)).mayWaits_none (thr := thr d L) hO) $$ Hlv
  ihave Ho' := (Entails.of_eq (starts d L ids tab old)) $$ Ho
  sl_for (trips d L ids tab old O W qi qx) $$ [Hmw Hi Hx Ho' Hs Hr HsemA HsemB HsemC HO]
  case region =>
    intro k _
    exact trip d L k ids tab old hid O W qi qx
  · unfold trips held
    isplitl [Hmw]; · iexact Hmw
    isplitl [Hi]; · iexact Hi
    isplitl [Hx]; · iexact Hx
    isplitl [Ho']; · iexact Ho'
    isplitl [Hs]; · iexact Hs
    isplitl [Hr]; · iexact Hr
    isplitl [HsemA]; · iexact HsemA
    isplitl [HsemB]; · iexact HsemB
    isplitl [HsemC]; · iexact HsemC
    iexists W; isplitr
    · ipureintro; exact fun p hp => .inl hp
    · iexact HO
  iintro %_ H
  unfold trips held
  icases H with ⟨-, Hi, Hx, Ho, Hs, Hr, HsemA, HsemB, HsemC, HO⟩
  ihave Ho' := (Entails.of_eq (ends d L ids tab old)) $$ Ho
  sl_step
  isplitl [Hi Hx Ho']
  · isplitl [Hi]; · iexact Hi
    isplitl [Hx]; · iexact Hx
    iexact Ho'
  isplitl [Hs Hr Hbufs]
  · isplitl [Hs]; · iexact Hs
    isplitl [Hr]; · iexact Hr
    iexact Hbufs
  isplitl [HsemA HsemB HsemC Hsems]
  · isplitl [HsemA]; · iexact HsemA
    isplitl [HsemB]; · iexact HsemB
    isplitl [HsemC]; · iexact HsemC
    iexact Hsems
  iexact HO

end Cert.Proof.KernelIdealRun

end
-- ==== Proof.KernelIdealRun.Deal.lean ====
/-
  The SparseCore call as the launch sees it: what its start hands the thirty-two tiles (a share of the token list and of
  the table, and 6400 rows of the output each) and what its end brings back, dealt out and joined again.
-/
module

public import proofs.«01_k».proof.Proof.KernelIdealRun.Gather

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The tile at coordinates `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- Its number as a worker. -/
def workerFin (c : Fin 2) (s : Fin 16) : Fin 32 := ⟨2 * s.val + c.val, by omega⟩

theorem worker_coordsV (c : Fin (grid0.bound 0)) (s : Fin (grid0.bound 1)) : worker (coordsV c s) = 2 * s.val + c.val := rfl

/-- Worker `w`'s share of an array all of them read. -/
abbrev shareOf (w : Fin 32) : PosShare TreeShare := pieceOf fullShare 32 (by decide) w

section Deal

variable [FloatOps F]
variable (ids : Dev nD → S204800.Idx → BitVec 32) (tab : Dev nD → S100000x128.Idx → Elt F .f32) (old : Dev nD → S204800x128.Idx → Elt F .f32)

/-- What worker `w` holds, its rows of the output at `f`. -/
abbrev part (d : Dev nD) (w : Fin 32) (f : S204800x128.Idx → Elt F .f32) : sProp 𝕄 :=
  iprop((iLoc d ↦{shareOf w} ids d) ∗ (xLoc d ↦{shareOf w} tab d) ∗ (oLoc d ↦[rowsOf w.val]{fullShare} f))

/-- The call's payloads: each SparseCore gets and returns its sixteen workers' parts, each tile its own. -/
def P : (K (F := F)).Pay (nD := nD) (Val := Elt F) (Name := ℕ) (U := UU) where
  st := fun q d c => match q with
    | 0 => bigSep Finset.univ fun i : Fin 16 => part ids tab d (workerFin (Fin.cast nCore_zero c) i) (old d)
  dn := fun q d c => match q with
    | 0 => bigSep Finset.univ fun i : Fin 16 => part ids tab d (workerFin (Fin.cast nCore_zero c) i) (gathered (ids d) (tab d))
  go := fun q d c i => match q with
    | 0 => part ids tab d (workerFin (Fin.cast nCore_zero c) (Fin.cast nSub_zero i)) (old d)
  td := fun q d c i => match q with
    | 0 => part ids tab d (workerFin (Fin.cast nCore_zero c) (Fin.cast nSub_zero i)) (gathered (ids d) (tab d))
  x := fun _ _ => iprop(emp)

instance P_storable : (P (F := F) ids tab old).IsStorable where
  st q d c := match q with
    | 0 => (inferInstance : BI.Storable (upEmb : UEmb _ 𝕄)
        (bigSep Finset.univ fun i : Fin 16 => part ids tab d (workerFin (Fin.cast nCore_zero c) i) (old d)))
  dn q d c := match q with
    | 0 => (inferInstance : BI.Storable (upEmb : UEmb _ 𝕄)
        (bigSep Finset.univ fun i : Fin 16 => part ids tab d (workerFin (Fin.cast nCore_zero c) i) (gathered (ids d) (tab d))))
  go q d c i := match q with
    | 0 => (inferInstance : BI.Storable (upEmb : UEmb _ 𝕄)
        (part ids tab d (workerFin (Fin.cast nCore_zero c) (Fin.cast nSub_zero i)) (old d)))
  td q d c i := match q with
    | 0 => (inferInstance : BI.Storable (upEmb : UEmb _ 𝕄)
        (part ids tab d (workerFin (Fin.cast nCore_zero c) (Fin.cast nSub_zero i)) (gathered (ids d) (tab d))))

theorem tasks_eq (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P ids tab old) 0 := by
  intro d c
  show (bigSep Finset.univ fun i : Fin 16 => part ids tab d (workerFin (Fin.cast nCore_zero c) i) (old d))
    ⊢ |={Set.univ}=> iprop(
      (bigSep Finset.univ fun i : Fin ((K (F := F)).nSub 0) =>
        part ids tab d (workerFin (Fin.cast nCore_zero c) (Fin.cast nSub_zero i)) (old d))
      ∗ ((bigSep Finset.univ fun i : Fin ((K (F := F)).nSub 0) =>
          part ids tab d (workerFin (Fin.cast nCore_zero c) (Fin.cast nSub_zero i)) (gathered (ids d) (tab d)))
        -∗ (bigSep Finset.univ fun i : Fin 16 => part ids tab d (workerFin (Fin.cast nCore_zero c) i) (gathered (ids d) (tab d)))))
  rw [tasks_eq (F := F) (fun i => part ids tab d (workerFin (Fin.cast nCore_zero c) i) (old d)),
    tasks_eq (F := F) (fun i => part ids tab d (workerFin (Fin.cast nCore_zero c) i) (gathered (ids d) (tab d)))]
  iintro H; imodintro
  isplitl [H]; · iexact H
  iintro H; iexact H

/-! ## The tile's obligation -/

theorem defs₀_tile (c : Fin τ.nSC) (s : Fin τ.nSub) :
    defs₀ (F := F) (.scVector c s) 0 ()
      = SparseCore.onTile hcore0 hsub0 (fun c s => cc0_gather_kernel (coordsV c s)
          (Memref.whole main_v0_scv) (Memref.isWhole_whole _) (Memref.whole main_v1_scv) (Memref.isWhole_whole _)
          (Memref.whole main_v4_scv) (Memref.isWhole_whole _) (Memref.whole cc0_scratch0) (Memref.isWhole_whole _)
          (Memref.whole cc0_scratch1) (Memref.isWhole_whole _) cc0_scratch2 cc0_scoped0 cc0_scoped1) ⟨⟩ c s := rfl

theorem weaken_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hid : ∀ d j, (ids d j).toNat < 100000) : (K (F := F)).TileObl (D (F := F)) 𝒱 (P ids tab old) v₀ 0 := by
  intro d c i O W hO _ _
  simp only [show (P ids tab old).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (task d (coordsV ⟨_, hci.1⟩ ⟨_, hci.2⟩) (ids d) (tab d) (old d) hF (hid d) O W hO _ _).trans (wp_mono frame _ _ fun _ => weaken_waits)

end Deal

/-! ## The whole arrays and the workers' parts -/

theorem rowsOf_disjoint : ∀ i ∈ (Finset.univ : Finset (Fin 32)), ∀ j ∈ (Finset.univ : Finset (Fin 32)), i ≠ j → Disjoint (rowsOf i.val) (rowsOf j.val) := by
  intro i _ j _ h
  refine Finset.disjoint_left.mpr fun x hx hy => h (Fin.ext ?_)
  exact (Finset.mem_filter.mp hx).2.symm.trans (Finset.mem_filter.mp hy).2

theorem rowsOf_cover : (Finset.univ : Finset (Fin 32)).biUnion (fun w => rowsOf w.val) = Finset.univ := by
  ext x
  have hx : (x 0).val < 204800 := (x 0).isLt
  simp only [Finset.mem_biUnion, Finset.mem_univ, true_and, iff_true]
  exact ⟨⟨(x 0).val / 6400, by omega⟩, Finset.mem_filter.mpr ⟨Finset.mem_univ _, rfl⟩⟩

/-- The workers are the pairs of a SparseCore and a tile. -/
def workerEquiv : Fin 2 × Fin 16 ≃ Fin 32 where
  toFun p := workerFin p.1 p.2
  invFun w := (⟨w.val % 2, by omega⟩, ⟨w.val / 2, by omega⟩)
  left_inv p := by
    obtain ⟨c, s⟩ := p
    refine Prod.ext (Fin.ext ?_) (Fin.ext ?_) <;> simp only [workerFin] <;> omega
  right_inv w := Fin.ext (by simp only [workerFin]; omega)

variable (ids : Dev nD → S204800.Idx → BitVec 32) (tab : Dev nD → S100000x128.Idx → Elt F .f32)

/-- The three arrays whole are the parts of all the workers. -/
theorem parts_eq (d : Dev nD) (f : S204800x128.Idx → Elt F .f32) :
    (iprop((iLoc d ↦{fullShare} ids d) ∗ (xLoc d ↦{fullShare} tab d) ∗ (oLoc d ↦{fullShare} f)) : sProp 𝕄)
      = bigSep Finset.univ fun c : Fin 2 => bigSep Finset.univ fun i : Fin 16 => part ids tab d (workerFin c i) f := by
  have e : (bigSep Finset.univ fun c : Fin 2 => bigSep Finset.univ fun i : Fin 16 => part ids tab d (workerFin c i) f)
      = (bigSep Finset.univ fun w : Fin 32 => part ids tab d w f : sProp 𝕄) := by
    rw [bigSep_univ_equiv workerEquiv, bigSep_univ_prod]
    rfl
  rw [e, bigSep_sep', bigSep_sep']
  congr 1
  · exact pointsTo_piecesOf Finset.univ _ (by decide) _
  · congr 1
    · exact pointsTo_piecesOf Finset.univ _ (by decide) _
    · rw [← pointsTo_biUnion Finset.univ (ℓ := oLoc d) (fun w : Fin 32 => rowsOf w.val) rowsOf_disjoint]
      exact congrArg (fun I => (oLoc d ↦[I]{fullShare} f : sProp 𝕄)) rowsOf_cover.symm

end Cert.Proof.KernelIdealRun

end
-- ==== Proof.KernelIdealRun.Body.lean ====
/-
  The dense kernel's body at one grid point: from the fourteen blocks it is called on, what it leaves in the two result
  blocks.
-/
module

public import proofs.«01_k».proof.Proof.KernelIdealRun.Base
public import Idealize.ShloMosaic.Lib.WholeRead

@[expose] public section

noncomputable section

namespace Cert.Proof.KernelIdealRun

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The first result's block, of the blocks it is computed from. -/
def tBlock (lens : Vec F S8x1 .i32) (emb : Vec F S1600x128 .f32) (mt : Vec F S1600x10 .f32) (wt : Vec F S128x128 .f32)
    (kt : Vec F S10x128 .f32) (ut : Vec F S128x10 .f32) (bt : Vec F S1x10 .f32) : FVec F S8x10 .f32 :=
  k1_pay11 (k1_pay3 emb wt mt kt) (k1_pay5 (F := F) lens) (iota .tc S8x1600 32 [0] iota_S8x1600_d0_w32) (iota .tc S8x1600 32 [1] iota_S8x1600_d1_w32)
    200#32 k1_pay6 k1_pay7 (Scalar.extui (Scalar.cmpi .sgt 200#32 0#32)) ut bt

/-- The second result's block, of the blocks it is computed from. -/
def sBlock (lens : Vec F S8x1 .i32) (emb : Vec F S1600x128 .f32) (ms : Vec F S1600x3 .f32) (ws : Vec F S128x128 .f32)
    (ks : Vec F S3x128 .f32) (us : Vec F S128x3 .f32) (bs : Vec F S1x3 .f32) : FVec F S8x3 .f32 :=
  k1_pay1 (k1_pay10 (k1_pay4 emb ws ms ks) (k1_pay5 (F := F) lens) (iota .tc S8x1600 32 [0] iota_S8x1600_d0_w32) (iota .tc S8x1600 32 [1] iota_S8x1600_d1_w32)
    200#32 k1_pay6 k1_pay7 (Scalar.extui (Scalar.cmpi .sgt 200#32 0#32))) us (constant S8x3 .f32 0x00000000#32) bs

/-- Memref `M`'s buffer on core `c`, held whole at `f`. -/
abbrev pt (c : Dev nD) {sp : Space} {S : Shape} {e : EltTy} (M : Memref sig .tc sp S e) (f : Buf (Elt F) (M.view.loc (c.tc : Thread nD τ))) : sProp 𝕄 :=
  M.view.loc (c.tc : Thread nD τ) ↦{fullShare} f

/-- A load of the whole of a memref reads what the memref holds. -/
theorem load_whole {s : Shape} {e : EltTy} {M : Memref sig .tc .vmem s e} (h : M.IsWhole) (X : Vec F s e) {off : Fin s.rank → ℕ}
    (hoff : ∀ a, off a = 0) (hin : ∀ a, off a + s.size a ≤ s.size a) :
    View.readAt (Elt F) M.view (Rect.unit (s := s) off s.size hin).toLoadRect (h.unread X) = X := by
  funext x
  rw [h.readAt_unread]
  refine congrArg X (funext fun a => Fin.ext ?_)
  show off a + 1 * (x a).val = (x a).val
  rw [hoff a]; omega

/-- A store over the whole of a memref leaves what was stored. -/
theorem store_whole {s : Shape} {e : EltTy} {M : Memref sig .tc .vmem s e} (h : M.IsWhole) (f : M.view.ty.Contents (Elt F)) (X : Vec F s e)
    {off : Fin s.rank → ℕ} (hoff : ∀ a, off a = 0) (hin : ∀ a, off a + s.size a ≤ s.size a) :
    M.view.writes (Elt F) f [⟨Rect.unit (s := s) off s.size hin, X⟩] = h.unread X := by
  refine h.eq_unread (funext fun x => ?_)
  have e : (Rect.unit (s := s) off s.size hin).emb x = x := funext fun a => Fin.ext (by
    show off a + 1 * (x a).val = (x a).val
    rw [hoff a]; omega)
  have k := View.read_writes_cons_emb (Val := Elt F) M.view f (Rect.unit (s := s) off s.size hin) X [] x
  rw [e] at k
  exact k

theorem entails_of_eq {P Q : sProp 𝕄} (h : P = Q) : P ⊢ Q := h ▸ BI.Entails.refl _

theorem off_zero {a : Fin 2} : (![0, 0] : Fin 2 → ℕ) a = 0 := by fin_cases a <;> rfl

theorem bodyRun (c : Dev nD) (i : grid1.Coords)
    (M0 : Memref sig .tc .vmem S8x1 .i32) (h0 : M0.IsWhole) (M1 : Memref sig .tc .vmem S1600x128 .f32) (h1 : M1.IsWhole)
    (M2 : Memref sig .tc .vmem S1600x10 .f32) (h2 : M2.IsWhole) (M3 : Memref sig .tc .vmem S1600x3 .f32) (h3 : M3.IsWhole)
    (M4 : Memref sig .tc .vmem S128x128 .f32) (h4 : M4.IsWhole) (M5 : Memref sig .tc .vmem S10x128 .f32) (h5 : M5.IsWhole)
    (M6 : Memref sig .tc .vmem S128x128 .f32) (h6 : M6.IsWhole) (M7 : Memref sig .tc .vmem S3x128 .f32) (h7 : M7.IsWhole)
    (M8 : Memref sig .tc .vmem S128x10 .f32) (h8 : M8.IsWhole) (M9 : Memref sig .tc .vmem S1x10 .f32) (h9 : M9.IsWhole)
    (M10 : Memref sig .tc .vmem S128x3 .f32) (h10 : M10.IsWhole) (M11 : Memref sig .tc .vmem S1x3 .f32) (h11 : M11.IsWhole)
    (M12 : Memref sig .tc .vmem S8x10 .f32) (h12 : M12.IsWhole) (M13 : Memref sig .tc .vmem S8x3 .f32) (h13 : M13.IsWhole)
    (X0 : Vec F S8x1 .i32) (X1 : Vec F S1600x128 .f32) (X2 : Vec F S1600x10 .f32) (X3 : Vec F S1600x3 .f32) (X4 : Vec F S128x128 .f32)
    (X5 : Vec F S10x128 .f32) (X6 : Vec F S128x128 .f32) (X7 : Vec F S3x128 .f32) (X8 : Vec F S128x10 .f32) (X9 : Vec F S1x10 .f32)
    (X10 : Vec F S128x3 .f32) (X11 : Vec F S1x3 .f32)
    (f12 : Buf (Elt F) (M12.view.loc (c.tc : Thread nD τ))) (f13 : Buf (Elt F) (M13.view.loc (c.tc : Thread nD τ)))
    (E : Set ℕ) (Q : PUnit → sProp 𝕄) :
    iprop(pt c M0 (h0.unread X0) ∗ pt c M1 (h1.unread X1) ∗ pt c M2 (h2.unread X2) ∗ pt c M3 (h3.unread X3)
        ∗ pt c M4 (h4.unread X4) ∗ pt c M5 (h5.unread X5) ∗ pt c M6 (h6.unread X6) ∗ pt c M7 (h7.unread X7)
        ∗ pt c M8 (h8.unread X8) ∗ pt c M9 (h9.unread X9) ∗ pt c M10 (h10.unread X10) ∗ pt c M11 (h11.unread X11)
        ∗ pt c M12 f12 ∗ pt c M13 f13
        ∗ (iprop(pt c M0 (h0.unread X0) ∗ pt c M1 (h1.unread X1) ∗ pt c M2 (h2.unread X2) ∗ pt c M3 (h3.unread X3)
            ∗ pt c M4 (h4.unread X4) ∗ pt c M5 (h5.unread X5) ∗ pt c M6 (h6.unread X6) ∗ pt c M7 (h7.unread X7)
            ∗ pt c M8 (h8.unread X8) ∗ pt c M9 (h9.unread X9) ∗ pt c M10 (h10.unread X10) ∗ pt c M11 (h11.unread X11)
            ∗ pt c M12 (h12.unread (tBlock X0 X1 X2 X4 X5 X8 X9)) ∗ pt c M13 (h13.unread (sBlock X0 X1 X3 X6 X7 X10 X11))) -∗ Q ⟨⟩))
      ⊢ wp frame (wpE (defs₀ (F := F)) 𝒱₀ (c.tc : Thread nD τ) none) E
          (cc1__tc_body i M0 h0 M1 h1 M2 h2 M3 h3 M4 h4 M5 h5 M6 h6 M7 h7 M8 h8 M9 h9 M10 h10 M11 h11 M12 h12 M13 h13) Q := by
  iintro ⟨H0, H1, H2, H3, H4, H5, H6, H7, H8, H9, H10, H11, H12, H13, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · refine entails_of_eq (congrArg (pt c M12) ((store_whole h12 f12 _ (fun _ => off_zero) _).trans (congrArg h12.unread ?_)))
    unfold tBlock bodyRun.sl.r bodyRun.sl.r_2
    rw [load_whole h8 X8 (fun _ => off_zero), load_whole h9 X9 (fun _ => off_zero), load_whole h0 X0 (fun _ => off_zero),
        load_whole h1 X1 (fun _ => off_zero), load_whole h2 X2 (fun _ => off_zero), load_whole h4 X4 (fun _ => off_zero), load_whole h5 X5 (fun _ => off_zero)]
    rfl
  · refine entails_of_eq (congrArg (pt c M13) ((store_whole h13 f13 _ (fun _ => off_zero) _).trans (congrArg h13.unread ?_)))
    unfold sBlock bodyRun.sl.r_3 bodyRun.sl.r_4 bodyRun.sl.r_1 bodyRun.sl.r_2
    rw [load_whole h11 X11 (fun _ => off_zero), load_whole h10 X10 (fun _ => off_zero), load_whole h0 X0 (fun _ => off_zero),
      load_whole h1 X1 (fun _ => off_zero), load_whole h3 X3 (fun _ => off_zero), load_whole h6 X6 (fun _ => off_zero), load_whole h7 X7 (fun _ => off_zero)]
    rfl

end Cert.Proof.KernelIdealRun

end
-- ==== Proof.KernelIdealRun.Region.lean ====
/-
  The dense kernel's pipeline: its proof data, from any contents of the arrays it reads, and its passage as one region of
  the program. After it each result array holds, block by block, what the body computes from the blocks of the inputs.
-/
module

public import proofs.«01_k».proof.Proof.KernelIdealRun.Body
public import proofs.«01_k».proof.Proof.Gen.KernelIdeal.Points
public import Idealize.ShloMosaic.Lib.Pipeline.RegionsLoop
public import Idealize.ShloMosaic.Lib.Pipeline.FrameBody

@[expose] public section

noncomputable section

namespace Cert.Proof.KernelIdealRun

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation arrRef)

variable {F : FTy → Type} [FloatOps F]

local notation "𝕄" => MT nD τ sig (HIx 1) (Elt F) ℕ UU ℕ

/-- A whole memref owned at what it reads is its buffer held at the contents that read so. -/
theorem owns_eq_pt (c : Dev nD) {sp : Space} {s : Shape} {e : EltTy} {M : Memref sig .tc sp s e} (h : M.IsWhole) (X : s.Idx → Elt F e) :
    (owns (c.tc : Thread nD τ) M fullShare X : sProp 𝕄) = pt c M (h.unread X) := by
  unfold owns pt
  refine BI.equiv_iff.mp ⟨?_, ?_⟩
  · change (iprop(∃ f, ⌜View.read (Elt F) M.view f = X⌝ ∗ M.view.loc (c.tc : Thread nD τ) ↦[M.view.set]{fullShare} f) : sProp 𝕄)
      ⊢ iprop(M.view.loc (c.tc : Thread nD τ) ↦{fullShare} h.unread X)
    iintro ⟨%f, %hf, H⟩
    rw [h.eq_unread hf, h.set_eq_univ]
    iexact H
  · change (iprop(M.view.loc (c.tc : Thread nD τ) ↦{fullShare} h.unread X) : sProp 𝕄)
      ⊢ iprop(∃ f, ⌜View.read (Elt F) M.view f = X⌝ ∗ M.view.loc (c.tc : Thread nD τ) ↦[M.view.set]{fullShare} f)
    iintro H
    iexists h.unread X
    isplitr; · ipureintro; exact h.read_unread X
    rw [h.set_eq_univ]
    iexact H

variable (V : (c : Dev nD) → (b : Ref sig .tc) → Buf (Elt F) ((c : Thread nD τ).loc b))

/-- Window `w`'s block at point `t`, of its array as the region finds it. -/
abbrev blockAt (c : Dev nD) (w : Fin 14) (t : Fin cfg1.N) : ((cfg1.win w).xblock (cfg1.grid.coords t)).Idx → Elt F (cfg1.win w).elt :=
  ((cfg1.win w).blk t).view.read (Elt F) (V c (arrRef spec1 w))

/-- What the body computes at point `t` for the first result, -/
def tAt (c : Dev nD) (t : Fin cfg1.N) : FVec F S8x10 .f32 :=
  tBlock (blockAt V c 0 t) (blockAt V c 1 t) (blockAt V c 2 t) (blockAt V c 4 t) (blockAt V c 5 t) (blockAt V c 8 t) (blockAt V c 9 t)
/-- and for the second. -/
def sAt (c : Dev nD) (t : Fin cfg1.N) : FVec F S8x3 .f32 :=
  sBlock (blockAt V c 0 t) (blockAt V c 1 t) (blockAt V c 3 t) (blockAt V c 6 t) (blockAt V c 7 t) (blockAt V c 10 t) (blockAt V c 11 t)

/-- The invariant between the region's ends: the scoped buffers the pipeline does not stage, held at something. -/
abbrev Φc (c : Dev nD) : sProp 𝕄 := Pipeline.scopedRest (Ix := HIx 1) (Name := ℕ) (U := UU) (Lvl := ℕ) (Val := Elt F) spec1 c

/-- The pipeline's proof data: the arrays as found; after the body the inputs' blocks as fetched, the results' as computed;
    nothing owed; the waits before it at or below the SparseCore call's levels. -/
def dat (c : Dev nD) : Dat τ (Elt F) (HIx 1) ℕ UU ℕ cfg1 c where
  A w := V c (arrRef spec1 w)
  after w t := match w with
    | ⟨0, _⟩ => blockAt V c 0 t
    | ⟨1, _⟩ => blockAt V c 1 t
    | ⟨2, _⟩ => blockAt V c 2 t
    | ⟨3, _⟩ => blockAt V c 3 t
    | ⟨4, _⟩ => blockAt V c 4 t
    | ⟨5, _⟩ => blockAt V c 5 t
    | ⟨6, _⟩ => blockAt V c 6 t
    | ⟨7, _⟩ => blockAt V c 7 t
    | ⟨8, _⟩ => blockAt V c 8 t
    | ⟨9, _⟩ => blockAt V c 9 t
    | ⟨10, _⟩ => blockAt V c 10 t
    | ⟨11, _⟩ => blockAt V c 11 t
    | ⟨12, _⟩ => tAt V c t
    | ⟨13, _⟩ => sAt V c t
  Φ _ := Φc c
  q _ := fullShare
  owed _ := 0
  recorded _ := {p | (K (F := F)).lev (SparseCore.T c, p.1) p.2 ≤ 8}

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

/-- Each input's buffer holds the input's block when the body runs. -/
theorem before_0 (c : Dev nD) (t : Fin cfg1.N) (d) : (dat V c).before 0 t d = blockAt V c 0 t :=
  (dat V c).before_in_eq_fetched 0 rfl (fun _ => rfl) (fun _ _ _ => rfl) (fun _ => rfl) t d
theorem before_1 (c : Dev nD) (t : Fin cfg1.N) (d) : (dat V c).before 1 t d = blockAt V c 1 t :=
  (dat V c).before_in_eq_fetched 1 rfl (fun _ => rfl) (fun _ _ _ => rfl) (fun _ => rfl) t d
theorem before_2 (c : Dev nD) (t : Fin cfg1.N) (d) : (dat V c).before 2 t d = blockAt V c 2 t :=
  (dat V c).before_in_eq_fetched 2 rfl (fun _ => rfl) (fun _ _ _ => rfl) (fun _ => rfl) t d
theorem before_3 (c : Dev nD) (t : Fin cfg1.N) (d) : (dat V c).before 3 t d = blockAt V c 3 t :=
  (dat V c).before_in_eq_fetched 3 rfl (fun _ => rfl) (fun _ _ _ => rfl) (fun _ => rfl) t d
theorem before_4 (c : Dev nD) (t : Fin cfg1.N) (d) : (dat V c).before 4 t d = blockAt V c 4 t :=
  (dat V c).before_in_eq_fetched 4 rfl (fun _ => rfl) (fun _ _ _ => rfl) (fun _ => rfl) t d
theorem before_5 (c : Dev nD) (t : Fin cfg1.N) (d) : (dat V c).before 5 t d = blockAt V c 5 t :=
  (dat V c).before_in_eq_fetched 5 rfl (fun _ => rfl) (fun _ _ _ => rfl) (fun _ => rfl) t d
theorem before_6 (c : Dev nD) (t : Fin cfg1.N) (d) : (dat V c).before 6 t d = blockAt V c 6 t :=
  (dat V c).before_in_eq_fetched 6 rfl (fun _ => rfl) (fun _ _ _ => rfl) (fun _ => rfl) t d
theorem before_7 (c : Dev nD) (t : Fin cfg1.N) (d) : (dat V c).before 7 t d = blockAt V c 7 t :=
  (dat V c).before_in_eq_fetched 7 rfl (fun _ => rfl) (fun _ _ _ => rfl) (fun _ => rfl) t d
theorem before_8 (c : Dev nD) (t : Fin cfg1.N) (d) : (dat V c).before 8 t d = blockAt V c 8 t :=
  (dat V c).before_in_eq_fetched 8 rfl (fun _ => rfl) (fun _ _ _ => rfl) (fun _ => rfl) t d
theorem before_9 (c : Dev nD) (t : Fin cfg1.N) (d) : (dat V c).before 9 t d = blockAt V c 9 t :=
  (dat V c).before_in_eq_fetched 9 rfl (fun _ => rfl) (fun _ _ _ => rfl) (fun _ => rfl) t d
theorem before_10 (c : Dev nD) (t : Fin cfg1.N) (d) : (dat V c).before 10 t d = blockAt V c 10 t :=
  (dat V c).before_in_eq_fetched 10 rfl (fun _ => rfl) (fun _ _ _ => rfl) (fun _ => rfl) t d
theorem before_11 (c : Dev nD) (t : Fin cfg1.N) (d) : (dat V c).before 11 t d = blockAt V c 11 t :=
  (dat V c).before_in_eq_fetched 11 rfl (fun _ => rfl) (fun _ _ _ => rfl) (fun _ => rfl) t d

/-- Core `c`'s whole ownership of a memref that reads `X`. -/
abbrev own (c : Dev nD) {sp : Space} {s : Shape} {e : EltTy} (M : Memref sig .tc sp s e) (X : s.Idx → Elt F e) : sProp 𝕄 :=
  owns (c.tc : Thread nD τ) M fullShare X

/-- The body's run, its memrefs spoken of by what they read. -/
theorem bodyOwn (c : Dev nD) (i : grid1.Coords)
    (M0 : Memref sig .tc .vmem S8x1 .i32) (h0 : M0.IsWhole) (M1 : Memref sig .tc .vmem S1600x128 .f32) (h1 : M1.IsWhole) (M2 : Memref sig
    .tc .vmem S1600x10 .f32) (h2 : M2.IsWhole) (M3 : Memref sig .tc .vmem S1600x3 .f32) (h3 : M3.IsWhole) (M4 : Memref sig .tc .vmem
    S128x128 .f32) (h4 : M4.IsWhole) (M5 : Memref sig .tc .vmem S10x128 .f32) (h5 : M5.IsWhole) (M6 : Memref sig .tc .vmem S128x128 .f32)
    (h6 : M6.IsWhole) (M7 : Memref sig .tc .vmem S3x128 .f32) (h7 : M7.IsWhole) (M8 : Memref sig .tc .vmem S128x10 .f32) (h8 : M8.IsWhole)
    (M9 : Memref sig .tc .vmem S1x10 .f32) (h9 : M9.IsWhole) (M10 : Memref sig .tc .vmem S128x3 .f32) (h10 : M10.IsWhole) (M11 : Memref sig
    .tc .vmem S1x3 .f32) (h11 : M11.IsWhole) (M12 : Memref sig .tc .vmem S8x10 .f32) (h12 : M12.IsWhole) (M13 : Memref sig .tc .vmem S8x3
    .f32) (h13 : M13.IsWhole)
    (X0 : Vec F S8x1 .i32) (X1 : Vec F S1600x128 .f32) (X2 : Vec F S1600x10 .f32) (X3 : Vec F S1600x3 .f32) (X4 : Vec F S128x128 .f32) (X5 :
    Vec F S10x128 .f32) (X6 : Vec F S128x128 .f32) (X7 : Vec F S3x128 .f32) (X8 : Vec F S128x10 .f32) (X9 : Vec F S1x10 .f32) (X10 : Vec F
    S128x3 .f32) (X11 : Vec F S1x3 .f32) (X12 : Vec F S8x10 .f32) (X13 : Vec F S8x3 .f32)
    (E : Set ℕ) (Q : PUnit → sProp 𝕄) :
    iprop((own c M0 X0 ∗ own c M1 X1 ∗ own c M2 X2 ∗ own c M3 X3 ∗ own c M4 X4 ∗ own c M5 X5 ∗ own c M6 X6
        ∗ own c M7 X7 ∗ own c M8 X8 ∗ own c M9 X9 ∗ own c M10 X10 ∗ own c M11 X11 ∗ own c M12 X12 ∗ own c M13 X13)
        ∗ (iprop(own c M0 X0 ∗ own c M1 X1 ∗ own c M2 X2 ∗ own c M3 X3 ∗ own c M4 X4 ∗ own c M5 X5 ∗ own c M6 X6
            ∗ own c M7 X7 ∗ own c M8 X8 ∗ own c M9 X9 ∗ own c M10 X10 ∗ own c M11 X11
            ∗ own c M12 (tBlock X0 X1 X2 X4 X5 X8 X9) ∗ own c M13 (sBlock X0 X1 X3 X6 X7 X10 X11)) -∗ Q ⟨⟩))
      ⊢ wp frame (wpE (defs₀ (F := F)) 𝒱₀ (c.tc : Thread nD τ) none) E
          (cc1__tc_body i M0 h0 M1 h1 M2 h2 M3 h3 M4 h4 M5 h5 M6 h6 M7 h7 M8 h8 M9 h9 M10 h10 M11 h11 M12 h12 M13 h13) Q := by
  simp only [own, owns_eq_pt c h0, owns_eq_pt c h1, owns_eq_pt c h2, owns_eq_pt c h3, owns_eq_pt c h4, owns_eq_pt c h5, owns_eq_pt c h6, owns_eq_pt c h7, owns_eq_pt c h8, owns_eq_pt c h9, owns_eq_pt c h10, owns_eq_pt c h11, owns_eq_pt c h12, owns_eq_pt c h13]
  iintro ⟨⟨H0, H1, H2, H3, H4, H5, H6, H7, H8, H9, H10, H11, H12, H13⟩, Hk⟩
  iapply (bodyRun c i M0 h0 M1 h1 M2 h2 M3 h3 M4 h4 M5 h5 M6 h6 M7 h7 M8 h8 M9 h9 M10 h10 M11 h11 M12 h12 M13 h13 X0 X1 X2 X3 X4 X5 X6 X7 X8 X9 X10 X11 (h12.unread X12) (h13.unread X13) E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact Hk

theorem body_obligation (c : Dev nD) : BodyObligation (dat V c) (defs₀ (F := F)) 𝒱₀ none Set.univ := fun t => by
  rw [bigSep_W1, bigSep_W1]
  dsimp only
  simp only [before_0, before_1, before_2, before_3, before_4, before_5, before_6, before_7, before_8, before_9, before_10, before_11]
  rw [show (dat V c).Φ t.succ = (dat V c).Φ t.castSucc from rfl,
    show (dat V c).owesAt none t.succ = (dat V c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (bodyOwn (F := F) c (grid1.coords t) (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (stage1_4 (cfg1.slots t 4)) (hstage1_4 ((cfg1.slots t 4).cast nbuf1_4)) (stage1_5 (cfg1.slots t 5)) (hstage1_5 ((cfg1.slots t 5).cast nbuf1_5)) (stage1_6 (cfg1.slots t 6)) (hstage1_6 ((cfg1.slots t 6).cast nbuf1_6)) (stage1_7 (cfg1.slots t 7)) (hstage1_7 ((cfg1.slots t 7).cast nbuf1_7)) (stage1_8 (cfg1.slots t 8)) (hstage1_8 ((cfg1.slots t 8).cast nbuf1_8)) (stage1_9 (cfg1.slots t 9)) (hstage1_9 ((cfg1.slots t 9).cast nbuf1_9)) (stage1_10 (cfg1.slots t 10)) (hstage1_10 ((cfg1.slots t 10).cast nbuf1_10)) (stage1_11 (cfg1.slots t 11)) (hstage1_11 ((cfg1.slots t 11).cast nbuf1_11)) (stage1_12 (cfg1.slots t 12)) (hstage1_12 ((cfg1.slots t 12).cast nbuf1_12)) (stage1_13 (cfg1.slots t 13)) (hstage1_13 ((cfg1.slots t 13).cast nbuf1_13))
    (blockAt V c 0 t) (blockAt V c 1 t) (blockAt V c 2 t) (blockAt V c 3 t) (blockAt V c 4 t) (blockAt V c 5 t) (blockAt V c 6 t) (blockAt V c 7 t) (blockAt V c 8 t) (blockAt V c 9 t) (blockAt V c 10 t) (blockAt V c 11 t) ((dat V c).before 12 t d12) ((dat V c).before 13 t d13) Set.univ _)
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The region -/

/-- The first result's array as the region leaves it, -/
def tArr (c : Dev nD) : Buf (Elt F) ((c : Thread nD τ).loc main_v10_0) := (dat V c).arrAt 12 cfg1.N
/-- and the second's. -/
def sArr (c : Dev nD) : Buf (Elt F) ((c : Thread nD τ).loc main_v10_1) := (dat V c).arrAt 13 cfg1.N

variable (Vp : (c : Dev nD) → (b : Ref sig .tc) → Buf (Elt F) ((c : Thread nD τ).loc b))

/-- The core's waits so far are at or below the SparseCore call's levels, and it owes nothing. -/
def clear (c : Dev nD) : sProp 𝕄 :=
  iprop(∃ W, ⌜∀ p ∈ W, (K (F := F)).lev (SparseCore.T c, p.1) p.2 ≤ 8⌝ ∗ owes (c : Thread nD τ) (0 : CellTallies nD τ sig (HIx 1)) W)

/-- A buffer no window reads or writes is not a window's array. -/
theorem off_windows (b : Ref sig .tc) (hb : b ∉ Finset.univ.image (arrRef spec1)) (w : Fin 14) : b ≠ arrRef spec1 w :=
  fun h => hb (h ▸ Finset.mem_image.mpr ⟨w, Finset.mem_univ _, rfl⟩)

/-- Every window's array as the region leaves it. -/
theorem arr_after (c : Dev nD) (ht : Vp c main_v10_0 = tArr V c) (hs : Vp c main_v10_1 = sArr V c)
    (hne : ∀ b : Ref sig .tc, b ≠ main_v10_0 → b ≠ main_v10_1 → Vp c b = V c b) (w : Fin 14) :
    (dat V c).arrAt w cfg1.N = Vp c (arrRef spec1 w) := by
  have hin : ∀ w : Fin 14, (cfg1.win w).isOut = false → arrRef spec1 w ≠ main_v10_0 → arrRef spec1 w ≠ main_v10_1 →
      (dat V c).arrAt w cfg1.N = Vp c (arrRef spec1 w) :=
    fun w h h0 h1 => ((dat V c).arrAt_in w h _).trans (hne _ h0 h1).symm
  match w with
  | 0 => exact hin 0 rfl (by decide) (by decide)
  | 1 => exact hin 1 rfl (by decide) (by decide)
  | 2 => exact hin 2 rfl (by decide) (by decide)
  | 3 => exact hin 3 rfl (by decide) (by decide)
  | 4 => exact hin 4 rfl (by decide) (by decide)
  | 5 => exact hin 5 rfl (by decide) (by decide)
  | 6 => exact hin 6 rfl (by decide) (by decide)
  | 7 => exact hin 7 rfl (by decide) (by decide)
  | 8 => exact hin 8 rfl (by decide) (by decide)
  | 9 => exact hin 9 rfl (by decide) (by decide)
  | 10 => exact hin 10 rfl (by decide) (by decide)
  | 11 => exact hin 11 rfl (by decide) (by decide)
  | 12 => exact ht.symm
  | 13 => exact hs.symm

set_option backward.isDefEq.respectTransparency.types false in
/-- The dense kernel's region: entered with every unscoped buffer at `V`, left with them at any `Vp` that has the two results'
    arrays as the region leaves them and is `V` elsewhere. -/
def reg (R : Dev nD → sProp 𝕄) (hVp_t : ∀ c, Vp c main_v10_0 = tArr V c) (hVp_s : ∀ c, Vp c main_v10_1 = sArr V c)
    (hVp_ne : ∀ c (b : Ref sig .tc), b ≠ main_v10_0 → b ≠ main_v10_1 → Vp c b = V c b) :
    Pipeline.RegionSeg (pcfgs (F := F)) adm (pdats V) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ clear c)
  post c := iprop(unscopedBufs c (Vp c) ∗ R c ∗ clear c)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin clear
      icases HO with ⟨%W, %hW, HO⟩; iexists W; isplitr; · ipureintro; exact fun p hp => Or.inl (hW p hp)
      iexact HO
    isplitr; · iempintro
    isplitl [Hrest] <;> iassumption
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (arr_after V Vp c (hVp_t c) (hVp_s c) (hVp_ne c))
      (fun b hb => hVp_ne c b (off_windows b hb 12) (off_windows b hb 13))
    iintro ⟨Ha, HO, -, Hrest, HR⟩
    imodintro
    isplitl [Ha Hrest]
    · iapply hjoin; isplitl [Ha] <;> iassumption
    isplitl [HR]; · iexact HR
    unfold Pipeline.Dat.owesAt Pipeline.owesWithin clear
    icases HO with ⟨%W, %hW, HO⟩; iexists W
    isplitr
    · ipureintro
      intro p hp
      rcases hW hp with h | h
      · exact h
      · obtain ⟨w, s, rfl⟩ := h
        exact Nat.zero_le 8
    iexact HO

end Cert.Proof.KernelIdealRun

end
-- ==== Proof.KernelIdealRun.Host.lean ====
/-
  The program's host operations and the contents they leave: the flat token list and the padded table and weights before
  the gather, the reshaped lengths, mixes and biases after it, the two results after the dense kernel.
-/
module

public import proofs.«01_k».proof.Proof.KernelIdealRun.Deal
public import proofs.«01_k».proof.Proof.KernelIdealRun.Region
public import Idealize.ShloMosaic.Lib.Pipeline.FrameTail

@[expose] public section

noncomputable section

namespace Cert.Proof.KernelIdealRun

open Cert.KernelIdeal Cert.KernelIdeal.Gen

open Idealize.ShloMosaic Idealize.ShloMosaic.TcCoe
open Idealize.ShloMosaic.SparseCore.Cfg (HIx)

variable {F : FTy → Type} [FloatOps F]

/-- The operations before the gather. -/
def opsA : List (HloOp τ sig (Elt F)) :=
  [StableHlo.reshape main_arg0 main_v0 (rfl : (.i32 : EltTy) = .i32) shapeCasts_S1024x200_S204800,
   StableHlo.nullary main_c (constantI S_ 32 0#32),
   StableHlo.TRef.unary (.of main_c : StableHlo.TRef sig ⟨S_, .i32⟩) main_call0.v0 (sitofp .f32),
   StableHlo.TRef.binary (.of main_arg4 : StableHlo.TRef sig ⟨S100000x64, .f32⟩) main_call0.v0 main_call0.v1
     (fun x v => pad S100000x128 ![0, 0] ![0, 64] ![0, 0] x v pads_S100000x64_S100000x128_000_0640 h_S_),
   StableHlo.nullary main_c_0 (constantI S_ 32 0#32),
   StableHlo.TRef.unary (.of main_c_0 : StableHlo.TRef sig ⟨S_, .i32⟩) main_call1.v0 (sitofp .f32),
   StableHlo.TRef.binary (.of main_arg5 : StableHlo.TRef sig ⟨S64x128, .f32⟩) main_call1.v0 main_call1.v1
     (fun x v => pad S128x128 ![0, 0] ![64, 0] ![0, 0] x v pads_S64x128_S128x128_0640_000 h_S_),
   StableHlo.nullary main_c_1 (constantI S_ 32 0#32),
   StableHlo.TRef.unary (.of main_c_1 : StableHlo.TRef sig ⟨S_, .i32⟩) main_call2.v0 (sitofp .f32),
   StableHlo.TRef.binary (.of main_arg7 : StableHlo.TRef sig ⟨S64x128, .f32⟩) main_call2.v0 main_call2.v1
     (fun x v => pad S128x128 ![0, 0] ![64, 0] ![0, 0] x v pads_S64x128_S128x128_0640_000 h_S_)]

/-- The operations between the gather and the dense kernel. -/
def opsB : List (HloOp τ sig (Elt F)) :=
  [StableHlo.reshape main_arg1 main_v5 (rfl : (.i32 : EltTy) = .i32) shapeCasts_S1024_S1024x1,
   StableHlo.reshape main_arg2 main_v6 (rfl : (.f32 : EltTy) = .f32) shapeCasts_S1024x200x10_S204800x10,
   StableHlo.reshape main_arg3 main_v7 (rfl : (.f32 : EltTy) = .f32) shapeCasts_S1024x200x3_S204800x3,
   StableHlo.reshape main_arg10 main_v8 (rfl : (.f32 : EltTy) = .f32) shapeCasts_S10_S1x10,
   StableHlo.reshape main_arg12 main_v9 (rfl : (.f32 : EltTy) = .f32) shapeCasts_S3_S1x3]

/-- The program: the first operations, the gather, the second operations, the dense kernel. -/
theorem main_eq (d : Dev nD) : main (F := F) d
    = StableHlo.seq opsA >>= fun _ => (K (F := F)).run d 0 >>= fun _ => StableHlo.seq opsB >>= fun _ =>
        SparseCore.liftProg (.op (.customCall (Pipeline.entry 0) ()) fun _ => .ret ⟨⟩) := by
  rfl

theorem opsA_sub : ∀ op ∈ opsA (F := F), op.bufs ⊆ Pipeline.ucRefs τ sig :=
  fun op h => Pipeline.sub_ucRefs op ((List.forall_iff_forall_mem.mp (show (opsA (F := F)).Forall fun op => op.bufs ⊆ StableHlo.tcRefs τ sig from
    ⟨StableHlo.reshape_bufs_sub .., StableHlo.nullary_bufs_sub .., StableHlo.unary_bufs_sub .., StableHlo.binary_bufs_sub ..,
      StableHlo.nullary_bufs_sub .., StableHlo.unary_bufs_sub .., StableHlo.binary_bufs_sub ..,
      StableHlo.nullary_bufs_sub .., StableHlo.unary_bufs_sub .., StableHlo.binary_bufs_sub ..⟩)) op h)

theorem opsA_fresh : ∀ op ∈ opsA (F := F), op.fresh = ∅ := List.forall_iff_forall_mem.mp (StableHlo.forall_fresh_of_map rfl)

theorem opsB_sub : ∀ op ∈ opsB (F := F), op.bufs ⊆ Pipeline.ucRefs τ sig :=
  fun op h => Pipeline.sub_ucRefs op ((List.forall_iff_forall_mem.mp (show (opsB (F := F)).Forall fun op => op.bufs ⊆ StableHlo.tcRefs τ sig from
    ⟨StableHlo.reshape_bufs_sub .., StableHlo.reshape_bufs_sub .., StableHlo.reshape_bufs_sub .., StableHlo.reshape_bufs_sub ..,
      StableHlo.reshape_bufs_sub ..⟩)) op h)

theorem opsB_fresh : ∀ op ∈ opsB (F := F), op.fresh = ∅ := List.forall_iff_forall_mem.mp (StableHlo.forall_fresh_of_map rfl)

/-! ## The contents -/

variable (m : (ℓ : Loc nD τ sig) → Buf (Elt F) ℓ)

/-- Device `d`'s buffers before the gather. -/
def V1 (d : Dev nD) : Valuation τ sig (Elt F) := StableHlo.after opsA (StableHlo.launchContents m d)

/-- The tokens, the table and the gathered rows' buffer as the gather finds them. -/
def ids (d : Dev nD) : S204800.Idx → BitVec 32 := V1 m d (Proc.devRef .tc main_v0)
def tab (d : Dev nD) : S100000x128.Idx → Elt F .f32 := V1 m d (Proc.devRef .tc main_v1)
def old (d : Dev nD) : S204800x128.Idx → Elt F .f32 := V1 m d (Proc.devRef .tc main_v4)

/-- after it, -/
def V2 (d : Dev nD) : Valuation τ sig (Elt F) := Function.update (V1 m d) (Proc.devRef .tc main_v4) (gathered (ids m d) (tab m d))
/-- before the dense kernel, -/
def V3 (d : Dev nD) : Valuation τ sig (Elt F) := StableHlo.after opsB (V2 m d)
/-- as the TensorCore refers to them, -/
def V3r (d : Dev nD) (b : Ref sig .tc) : Buf (Elt F) ((d : Thread nD τ).loc b) := V3 m d (Proc.devRef .tc b)
/-- and at the end. -/
def V4 (d : Dev nD) : Valuation τ sig (Elt F) :=
  Function.update (Function.update (V3 m d) (Proc.devRef .tc main_v10_0) (tArr (V3r m) d)) (Proc.devRef .tc main_v10_1) (sArr (V3r m) d)
def V4r (d : Dev nD) (b : Ref sig .tc) : Buf (Elt F) ((d : Thread nD τ).loc b) := V4 m d (Proc.devRef .tc b)

theorem V4r_t (d : Dev nD) : V4r m d main_v10_0 = tArr (V3r m) d := by
  unfold V4r V4
  rw [Function.update_of_ne (StableHlo.devRef_ne_of_ne (by decide)), Function.update_self]

theorem V4r_s (d : Dev nD) : V4r m d main_v10_1 = sArr (V3r m) d := by
  unfold V4r V4
  rw [Function.update_self]

theorem V4r_ne (d : Dev nD) (b : Ref sig .tc) (h0 : b ≠ main_v10_0) (h1 : b ≠ main_v10_1) : V4r m d b = V3r m d b := by
  unfold V4r V4 V3r
  rw [Function.update_of_ne (StableHlo.devRef_ne_of_ne h1), Function.update_of_ne (StableHlo.devRef_ne_of_ne h0)]

end Cert.Proof.KernelIdealRun

end
-- ==== Proof.KernelIdealRun.Run.lean ====
/-
  The program's run: from any launch memory whose token words number rows of the table, every unscoped buffer ends at the
  contents `V4r`, every semaphore at zero.
-/
module

public import proofs.«01_k».proof.Proof.KernelIdealRun.Host

@[expose] public section

noncomputable section

namespace Cert.Proof.KernelIdealRun

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The gather's three arrays among the unscoped buffers -/

/-- The gather's three arrays. -/
def trio : Finset (DevRef τ sig) := {Proc.devRef .tc main_v0, Proc.devRef .tc main_v1, Proc.devRef .tc main_v4}

theorem trio_sub : trio ⊆ Pipeline.ucRefs τ sig := by
  intro b hb
  simp only [trio, Finset.mem_insert, Finset.mem_singleton] at hb
  rcases hb with rfl | rfl | rfl <;> exact Pipeline.devRef_mem_ucRefs rfl

/-- They are held as three points-tos. -/
theorem held_trio (d : Dev nD) (W : Valuation τ sig (Elt F)) :
    (StableHlo.held (d.tc : Thread nD τ) trio W : sProp 𝕄)
      = iprop((iLoc d ↦{fullShare} W (Proc.devRef .tc main_v0)) ∗ (xLoc d ↦{fullShare} W (Proc.devRef .tc main_v1))
          ∗ (oLoc d ↦{fullShare} W (Proc.devRef .tc main_v4))) := by
  unfold StableHlo.held trio
  rw [SparseCore.bigSep_insert' (by
      rw [Finset.mem_insert, Finset.mem_singleton]
      exact fun h => h.elim (StableHlo.devRef_ne_of_ne (by decide)) (StableHlo.devRef_ne_of_ne (by decide))),
    SparseCore.bigSep_insert' (by
      rw [Finset.mem_singleton]; exact StableHlo.devRef_ne_of_ne (by decide)), bigSep_singleton]

/-- Before the gather: every worker's part, its rows as they were, and the rest. -/
theorem held_before (d : Dev nD) :
    (StableHlo.held (d.tc : Thread nD τ) (Pipeline.ucRefs τ sig) (V1 m d) : sProp 𝕄)
      = iprop((bigSep Finset.univ fun c : Fin 2 => bigSep Finset.univ fun i : Fin 16 => part (ids m) (tab m) d (workerFin c i) (old m d))
          ∗ StableHlo.held (d.tc : Thread nD τ) (Pipeline.ucRefs τ sig \ trio) (V1 m d)) := by
  rw [StableHlo.held_sub_split _ trio_sub, held_trio, ← parts_eq]
  rfl

/-- After it: every worker's part, its rows gathered, and the rest unchanged. -/
theorem held_gathered (d : Dev nD) :
    (StableHlo.held (d.tc : Thread nD τ) (Pipeline.ucRefs τ sig) (V2 m d) : sProp 𝕄)
      = iprop((bigSep Finset.univ fun c : Fin 2 => bigSep Finset.univ fun i : Fin 16 =>
            part (ids m) (tab m) d (workerFin c i) (gathered (ids m d) (tab m d)))
          ∗ StableHlo.held (d.tc : Thread nD τ) (Pipeline.ucRefs τ sig \ trio) (V1 m d)) := by
  have hr : (StableHlo.held (d.tc : Thread nD τ) (Pipeline.ucRefs τ sig \ trio) (V2 m d) : sProp 𝕄)
      = StableHlo.held (d.tc : Thread nD τ) (Pipeline.ucRefs τ sig \ trio) (V1 m d) :=
    StableHlo.held_congr _ fun b hb => Function.update_of_ne (fun h => (Finset.mem_sdiff.mp hb).2
      (by rw [h, trio]; simp only [Finset.mem_insert, Finset.mem_singleton, or_true])) _ _
  have h0 : V2 m d (Proc.devRef .tc main_v0) = ids m d := Function.update_of_ne (StableHlo.devRef_ne_of_ne (by decide)) _ _
  have h1 : V2 m d (Proc.devRef .tc main_v1) = tab m d := Function.update_of_ne (StableHlo.devRef_ne_of_ne (by decide)) _ _
  have h4 : V2 m d (Proc.devRef .tc main_v4) = gathered (ids m d) (tab m d) := Function.update_self _ _ _
  rw [StableHlo.held_sub_split _ trio_sub, hr, held_trio, h0, h1, h4, ← parts_eq]

/-! ## The launch's ghost state -/

/-- The handshakes' and the pipeline's rounds at their start. -/
def u₀ : UU := (initOf (K (F := F)).hsCells (K (F := F)).hsToks,
  (initOf (Pipeline.cells cfgs cellOf_inj) (Pipeline.launchToks cfgs cellOf_inj), (1 : Counters)))

/-- What device `d`'s TensorCore is dealt of it: its pipeline's cells and duty tokens. -/
def deal (d : Dev nD) : sProp 𝕄 :=
  iprop(Pipeline.cellsGhost cfgs EP 0 d ∗ Pipeline.toksInit cfgs EP 0 d)

theorem split_u₀ (a : UH) (b : UP) : (ownU ((a, (b, (1 : Counters))) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => deal d)
        ∗ bigSep Finset.univ fun thr : Thread nD τ => bigSep Finset.univ fun q : Fin 1 => (P (ids m) (tab m) (old m)).x q thr) := by
  have hx : (bigSep Finset.univ fun thr : Thread nD τ => bigSep Finset.univ fun q : Fin 1 => (P (F := F) (ids m) (tab m) (old m)).x q thr)
      = (iprop(emp) : sProp 𝕄) :=
    (bigSep_congr fun _ _ => bigSep_univ_of_subsingleton (0 : Fin 1)).trans (bigSep_emp_const _)
  have hg : (bigSep Finset.univ fun d : Dev nD => (deal d : sProp 𝕄))
      = iprop((bigSep Finset.univ fun c : Dev nD => bigSep Finset.univ fun p => Pipeline.cellsGhost cfgs EP p c)
          ∗ (bigSep Finset.univ fun c : Dev nD => bigSep Finset.univ fun p => Pipeline.toksInit cfgs EP p c)) := by
    unfold deal
    rw [bigSep_sep']
    congr 1
    · exact bigSep_congr fun c _ => (bigSep_univ_of_subsingleton (Φ := fun p : Fin 1 => Pipeline.cellsGhost cfgs EP p c) (0 : Fin 1)).symm
    · exact bigSep_congr fun c _ => (bigSep_univ_of_subsingleton (Φ := fun p : Fin 1 => Pipeline.toksInit cfgs EP p c) (0 : Fin 1)).symm
  rw [hx, hg]
  unfold u₀
  iintro Hu
  ihave H := (split_u₀ (F := F) _ _) $$ Hu
  icases H with ⟨HH, HP⟩
  imod (Pipeline.fund_ghost cfgs EP cellOf_inj) $$ HP with HG
  imodintro
  isplitl [HH]; · iexact HH
  isplitl [HG]; · iexact HG
  iempintro

/-! ## The TensorCore's program -/

/-- What device `d`'s TensorCore ends with: every unscoped buffer at its final contents. -/
abbrev FIN (d : Dev nD) : sProp 𝕄 := iprop(StableHlo.held (d.tc : Thread nD τ) (Pipeline.ucRefs τ sig) (V4 m d))

theorem st_eq (d : Dev nD) :
    (bigSep Finset.univ fun c : Fin ((K (F := F)).nCore 0) => (P (ids m) (tab m) (old m)).st 0 d c : sProp 𝕄)
      = bigSep Finset.univ fun c : Fin 2 => bigSep Finset.univ fun i : Fin 16 => part (ids m) (tab m) d (workerFin c i) (old m d) := rfl

theorem dn_eq (d : Dev nD) :
    (bigSep Finset.univ fun c : Fin ((K (F := F)).nCore 0) => (P (ids m) (tab m) (old m)).dn 0 d c : sProp 𝕄)
      = bigSep Finset.univ fun c : Fin 2 => bigSep Finset.univ fun i : Fin 16 =>
          part (ids m) (tab m) d (workerFin c i) (gathered (ids m d) (tab m d)) := rfl

/-- The dense kernel's region at this program's contents; `R` rides along. -/
abbrev dense (R : Dev nD → sProp 𝕄) :=
  reg (V3r m) (V4r m) R (V4r_t m) (V4r_s m) (fun c b h0 h1 => V4r_ne m c b h0 h1)

theorem unscoped_eq (d : Dev nD) (W : Valuation τ sig (Elt F)) :
    (StableHlo.held (d.tc : Thread nD τ) (Pipeline.ucRefs τ sig) W : sProp 𝕄)
      = unscopedBufs d (fun b => W (Proc.devRef .tc b)) := (Pipeline.unscopedBufs_held d W).symm

theorem dense_pre (R : Dev nD → sProp 𝕄) (d : Dev nD) : (dense m R).pre d = iprop(unscopedBufs d (V3r m d) ∗ R d ∗ clear d) := rfl
theorem dense_post (R : Dev nD → sProp 𝕄) (d : Dev nD) : (dense m R).post d = iprop(unscopedBufs d (V4r m d) ∗ R d ∗ clear d) := rfl

set_option backward.isDefEq.respectTransparency.types false in
theorem hmain [∀ e, Nonempty (Elt F e)] (κ : GSem nD τ sig → ℕ) (d : Dev nD) :
    iprop((K (F := F)).ctx EH (P (ids m) (tab m) (old m)) κ ∗ (K (F := F)).tcSt EH d 0 ∗ (K (F := F)).tcRes m ρ d ∗ deal d)
      ⊢ wp frame (wpE ((K (F := F)).defs (D (F := F))) 𝒱 (SparseCore.T d) none) Set.univ (main d)
          fun _ => iprop((K (F := F)).tcSt EH d 1 ∗ FIN m d ∗ (K (F := F)).tcEnd d) := by
  have hO : (K (F := F)).Otc d 1 = (0 : CellTallies nD τ sig (HIx 1)) := (K (F := F)).Otc_end d (le_refl 1)
  unfold SparseCore.Cfg.tcRes SparseCore.Cfg.tcEnd
  rw [main_eq, show (fun b : Ref sig .tc => m ((SparseCore.T d).loc b)) = (fun b : Ref sig .tc => StableHlo.launchContents m d (Proc.devRef .tc b)) from rfl,
    ← unscoped_eq]
  iintro ⟨#Hctx, Hst, ⟨Hb, Hub, Hts, -⟩, Hg⟩
  iapply (StableHlo.wp_seq 𝒱 none Set.univ d (Pipeline.ucRefs τ sig) _ opsA opsA_sub opsA_fresh (StableHlo.launchContents m d)) $$ [Hb Hub]
  · isplitl [Hb] <;> iassumption
  iintro ⟨Hb, Hub⟩
  rw [show StableHlo.after opsA (StableHlo.launchContents m d) = V1 m d from rfl]
  ihave Hub' := (Entails.of_eq (held_before m d)) $$ Hub
  icases Hub' with ⟨Hparts, Hrest⟩
  rw [wp_bind]
  iapply ((K (F := F)).wp_run (D (F := F)) 𝒱 (EH := EH) (P := P (ids m) (tab m) (old m)) κ d 0) $$ [Hst Hparts Hrest Hb Hts Hg]
  isplitr; · iexact Hctx
  isplitl [Hst]; · iexact Hst
  isplitl [Hparts]
  · rw [st_eq]; iexact Hparts
  iintro ⟨Hst, Hdn⟩
  ihave Hparts := (Entails.of_eq (dn_eq m d)) $$ Hdn
  ihave Hub := (Entails.of_eq (held_gathered m d).symm) $$ [Hparts Hrest]
  · isplitl [Hparts] <;> iassumption
  iapply (StableHlo.wp_seq 𝒱 none Set.univ d (Pipeline.ucRefs τ sig) _ opsB opsB_sub opsB_fresh (V2 m d)) $$ [Hb Hub]
  · isplitl [Hb] <;> iassumption
  iintro ⟨Hb, Hub⟩
  ihave Hub := (Entails.of_eq (unscoped_eq d (StableHlo.after opsB (V2 m d)))) $$ Hub
  iapply ((K (F := F)).wp_liftProg (D (F := F)) 𝒱 (SparseCore.T d) Set.univ none _ _)
  ihave Hlev := ((K (F := F)).ctx_levAts κ) $$ Hctx
  unfold SparseCore.Cfg.tcSt deal
  icases Hst with ⟨⟨%W, %hW, HO⟩, Hst⟩
  icases Hg with ⟨Hg1, Hg2⟩
  iapply (Pipeline.RegionSeg.wp (pcfgs (F := F)) adm (pdats (V3r m)) none cellOf_inj EP defs₀ 𝒱₀ (K (F := F)).L (K (F := F)).lev
    (dense m fun _ => iprop(emp)) d none (fun _ h => nomatch h) _ _)
  isplitl [Hst Hts]
  · rw [dense_post]
    iintro ⟨Hb, Hub, -, HO⟩
    unfold clear
    icases HO with ⟨%W', %hW', HO⟩
    rw [wp_ret]
    imodintro
    isplitl [HO Hst]
    · isplitl [HO]
      · iexists W'
        isplitr
        · ipureintro; exact hW'
        rw [hO]; iexact HO
      iexact Hst
    isplitl [Hub]
    · iapply (Entails.of_eq (unscoped_eq d (V4 m d)).symm); iexact Hub
    isplitl [Hb] <;> iassumption
  isplitl [Hb]; · iexact Hb
  isplitl [Hub HO]
  · rw [dense_pre]
    isplitl [Hub]; · iexact Hub
    isplitr; · iempintro
    unfold clear
    iexists W
    isplitr
    · ipureintro; exact hW
    ihave HO := (Entails.of_eq (congrArg (fun O => (owes (SparseCore.T d) O W : sProp 𝕄))
      (show (K (F := F)).Otc d ((0 : Fin 1).val + 1) = 0 from hO))) $$ HO
    iexact HO
  isplitl [Hlev]; · iexact Hlev
  isplitl [Hg1] <;> iassumption

/-! ## The run -/

/-- Every unscoped buffer of device `d` at its final contents. -/
def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  iintro ⟨H, HSI⟩
  iapply (SI_pointsTo_bufs_agree (st := s') (c := d) (qs := fun _ => fullShare) (F := V4 m d) (Pipeline.ucRefs τ sig))
  isplitl [HSI]; · iexact HSI
  ihave H := (Entails.of_eq (show FIN m d = bigSep (Pipeline.ucRefs τ sig) fun b => (d, b) ↦{fullShare} V4 m d b from rfl)) $$ H
  iexact H

/-- From a launch memory whose tokens all number rows of the table, the program ends with every unscoped buffer of every device
    at `V4r` and every semaphore at zero. -/
theorem run [∀ e, Nonempty (Elt F e)] (hid : ∀ d j, (ids m d j).toNat < 100000) :
    θ_run (Cert.KernelIdeal.defs (F := F)) (Cert.KernelIdeal.threads (F := F)) ⟨m, fun _ => 0, ρ⟩
      fun r => (∀ (c : Dev nD) (b : Ref sig .tc), b.isScoped = false → r.2.mem ((c.tc : Thread nD τ).loc b) = V4r m c b) ∧ r.2.sem = fun _ => 0 :=
  SparseCore.Cfg.θ_run_sc_quiescent (K := K (F := F)) (D := D (F := F)) (𝒱 := 𝒱) (EH := EH) (P := P (ids m) (tab m) (old m)) (A := ∅) facts v₀
    (fun q hq => match q with | 0 => nomatch hq)
    (fun q _ => match q with | 0 => tileObl (ids m) (tab m) (old m) facts hid)
    (fun q _ => match q with | 0 => SparseCore.Cfg.VecSplit.of_plain (vecSplit (ids m) (tab m) (old m)))
    m ρ main deal (FIN m) (u₀ (F := F)) (sep_elim_left.trans (hu₀ m)) (hmain m ρ) (fq m) (hfin m) _
    (fun _ h hz => ⟨fun c b hb => h c _ (Pipeline.devRef_mem_ucRefs hb), hz⟩)

end Cert.Proof.KernelIdealRun

end
-- ==== Proof.KernelIdealRun.Contents.lean ====
/-
  The contents the host operations leave, in terms of the arguments: the gather's tokens and table, the dense kernel's
  arrays; and the arguments, unchanged to the end.
-/
module

public import proofs.«01_k».proof.Proof.KernelIdealRun.Run

@[expose] public section

noncomputable section

namespace Cert.Proof.KernelIdealRun

open Cert.KernelIdeal Cert.KernelIdeal.Gen

open Idealize.ShloMosaic Idealize.ShloMosaic.TcCoe Idealize.ShloMosaic.StableHlo

variable {F : FTy → Type} [FloatOps F]
variable (m : (ℓ : Loc nD τ sig) → Buf (Elt F) ℓ) (d : Dev nD)

/-- The tokens the gather reads are the token argument, flattened. -/
theorem ids_eq : ids m d = shapeCast S204800 (m ((SparseCore.T d).loc main_arg0)) shapeCasts_S1024x200_S204800 := by
  unfold ids V1
  simp only [opsA, TRef.binary, TRef.nullary, TRef.ternary, TRef.unary, TRef.toBuf, TRef.ofBuf, cast_eq]
  after_results_simp <;> rfl

/-- If every token is below 100000, so is every word the gather reads. -/
theorem ids_lt (h : ∀ d i, (m ((SparseCore.T d).loc main_arg0) i).toNat < 100000) (d : Dev nD) (j : S204800.Idx) :
    (ids m d j).toNat < 100000 := by
  rw [ids_eq]
  exact h d _

/-- The table the gather reads is the table argument with its rows padded to 128 lanes by zeros. -/
theorem tab_eq : tab m d = pad S100000x128 ![0, 0] ![0, 64] ![0, 0] (m ((SparseCore.T d).loc main_arg4))
    (sitofp .f32 (constantI S_ 32 0#32)) pads_S100000x64_S100000x128_000_0640 h_S_ := by
  unfold tab V1
  simp only [opsA, TRef.binary, TRef.nullary, TRef.ternary, TRef.unary, TRef.toBuf, TRef.ofBuf, cast_eq]
  after_results_simp <;> rfl

/-- The padded theme weights and sentiment weights. -/
theorem wt_eq : V1 m d (Proc.devRef .tc main_v2) = pad S128x128 ![0, 0] ![64, 0] ![0, 0] (m ((SparseCore.T d).loc main_arg5))
    (sitofp .f32 (constantI S_ 32 0#32)) pads_S64x128_S128x128_0640_000 h_S_ := by
  unfold V1
  simp only [opsA, TRef.binary, TRef.nullary, TRef.ternary, TRef.unary, TRef.toBuf, TRef.ofBuf, cast_eq]
  after_results_simp <;> rfl

theorem ws_eq : V1 m d (Proc.devRef .tc main_v3) = pad S128x128 ![0, 0] ![64, 0] ![0, 0] (m ((SparseCore.T d).loc main_arg7))
    (sitofp .f32 (constantI S_ 32 0#32)) pads_S64x128_S128x128_0640_000 h_S_ := by
  unfold V1
  simp only [opsA, TRef.binary, TRef.nullary, TRef.ternary, TRef.unary, TRef.toBuf, TRef.ofBuf, cast_eq]
  after_results_simp <;> rfl

/-! ## What is not written -/

/-- The buffers the operations before the gather write, and those between it and the dense kernel. -/
def writtenA : List (Ref sig .tc) :=
  [main_v0, main_c, main_call0_v0, main_v1, main_c_0, main_call1_v0, main_v2, main_c_1, main_call2_v0, main_v3]
def writtenB : List (Ref sig .tc) := [main_v5, main_v6, main_v7, main_v8, main_v9]

theorem V1_kept (b : Ref sig .tc) (hb : b ∉ writtenA) : V1 m d (Proc.devRef .tc b) = m ((SparseCore.T d).loc b) :=
  after_of_writes_sub opsA _ (forall_writes_sub_of_map rfl) hb

theorem V2_kept (b : Ref sig .tc) (hb : b ≠ main_v4) : V2 m d (Proc.devRef .tc b) = V1 m d (Proc.devRef .tc b) :=
  Function.update_of_ne (devRef_ne_of_ne hb) _ _

theorem V3_kept (b : Ref sig .tc) (hb : b ∉ writtenB) : V3r m d b = V2 m d (Proc.devRef .tc b) :=
  after_of_writes_sub opsB _ (forall_writes_sub_of_map rfl) hb

/-- A buffer that none of them writes reaches the dense kernel as it was at the launch, -/
theorem V3r_kept (b : Ref sig .tc) (hA : b ∉ writtenA) (h4 : b ≠ main_v4) (hB : b ∉ writtenB) : V3r m d b = m ((SparseCore.T d).loc b) :=
  ((V3_kept m d b hB).trans (V2_kept m d b h4)).trans (V1_kept m d b hA)

/-- and, no result of that kernel, the end. -/
theorem V4r_kept (b : Ref sig .tc) (hA : b ∉ writtenA) (h4 : b ≠ main_v4) (hB : b ∉ writtenB) (h0 : b ≠ main_v10_0) (h1 : b ≠ main_v10_1) :
    V4r m d b = m ((SparseCore.T d).loc b) :=
  (V4r_ne m d b h0 h1).trans (V3r_kept m d b hA h4 hB)

/-! ## The dense kernel's arrays -/

theorem emb_eq : V3r m d main_v4 = gathered (ids m d) (tab m d) :=
  (V3_kept m d main_v4 (by decide)).trans (Function.update_self _ _ _)

theorem wt_at : V3r m d main_v2 = pad S128x128 ![0, 0] ![64, 0] ![0, 0] (m ((SparseCore.T d).loc main_arg5))
    (sitofp .f32 (constantI S_ 32 0#32)) pads_S64x128_S128x128_0640_000 h_S_ :=
  ((V3_kept m d main_v2 (by decide)).trans (V2_kept m d main_v2 (by decide))).trans (wt_eq m d)

theorem ws_at : V3r m d main_v3 = pad S128x128 ![0, 0] ![64, 0] ![0, 0] (m ((SparseCore.T d).loc main_arg7))
    (sitofp .f32 (constantI S_ 32 0#32)) pads_S64x128_S128x128_0640_000 h_S_ :=
  ((V3_kept m d main_v3 (by decide)).trans (V2_kept m d main_v3 (by decide))).trans (ws_eq m d)

theorem V2_arg (b : Ref sig .tc) (hA : b ∉ writtenA) (h4 : b ≠ main_v4) : V2 m d (Proc.devRef .tc b) = m ((SparseCore.T d).loc b) :=
  (V2_kept m d b h4).trans (V1_kept m d b hA)

theorem lens_at : V3r m d main_v5 = shapeCast S1024x1 (m ((SparseCore.T d).loc main_arg1)) shapeCasts_S1024_S1024x1 := by
  rw [← V2_arg m d main_arg1 (by decide) (by decide)]
  unfold V3r V3
  simp only [opsB]
  after_results_simp <;> rfl

theorem mt_at : V3r m d main_v6 = shapeCast S204800x10 (m ((SparseCore.T d).loc main_arg2)) shapeCasts_S1024x200x10_S204800x10 := by
  rw [← V2_arg m d main_arg2 (by decide) (by decide)]
  unfold V3r V3
  simp only [opsB]
  after_results_simp <;> rfl

theorem ms_at : V3r m d main_v7 = shapeCast S204800x3 (m ((SparseCore.T d).loc main_arg3)) shapeCasts_S1024x200x3_S204800x3 := by
  rw [← V2_arg m d main_arg3 (by decide) (by decide)]
  unfold V3r V3
  simp only [opsB]
  after_results_simp <;> rfl

theorem bt_at : V3r m d main_v8 = shapeCast S1x10 (m ((SparseCore.T d).loc main_arg10)) shapeCasts_S10_S1x10 := by
  rw [← V2_arg m d main_arg10 (by decide) (by decide)]
  unfold V3r V3
  simp only [opsB]
  after_results_simp <;> rfl

theorem bs_at : V3r m d main_v9 = shapeCast S1x3 (m ((SparseCore.T d).loc main_arg12)) shapeCasts_S3_S1x3 := by
  rw [← V2_arg m d main_arg12 (by decide) (by decide)]
  unfold V3r V3
  simp only [opsB]
  after_results_simp <;> rfl

/-- Every argument ends as it was at the launch. -/
theorem args_kept : V4r m d main_arg0 = m ((SparseCore.T d).loc main_arg0) ∧ V4r m d main_arg1 = m ((SparseCore.T d).loc main_arg1)
    ∧ V4r m d main_arg2 = m ((SparseCore.T d).loc main_arg2) ∧ V4r m d main_arg3 = m ((SparseCore.T d).loc main_arg3)
    ∧ V4r m d main_arg4 = m ((SparseCore.T d).loc main_arg4) ∧ V4r m d main_arg5 = m ((SparseCore.T d).loc main_arg5)
    ∧ V4r m d main_arg6 = m ((SparseCore.T d).loc main_arg6) ∧ V4r m d main_arg7 = m ((SparseCore.T d).loc main_arg7)
    ∧ V4r m d main_arg8 = m ((SparseCore.T d).loc main_arg8) ∧ V4r m d main_arg9 = m ((SparseCore.T d).loc main_arg9)
    ∧ V4r m d main_arg10 = m ((SparseCore.T d).loc main_arg10) ∧ V4r m d main_arg11 = m ((SparseCore.T d).loc main_arg11)
    ∧ V4r m d main_arg12 = m ((SparseCore.T d).loc main_arg12) := by
  refine ⟨?_, ?_, ?_, ?_, ?_, ?_, ?_, ?_, ?_, ?_, ?_, ?_, ?_⟩ <;>
    exact V4r_kept m d _ (by decide) (by decide) (by decide) (by decide) (by decide)

end Cert.Proof.KernelIdealRun

end
-- ==== Proof.Value.Spec.lean ====
/-
  What the two programs compute, in plain arithmetic over the extended reals: one head of the model (the theme's ten
  classes or the sentiment's three), from the tokens, their lengths, the mention features, the embedding table and the
  head's weights.
-/
module

public import Idealize.ShloMosaic.Lib.Pointwise

@[expose] public section

noncomputable section

namespace Cert.Proof.Value

open Idealize.ShloMosaic

/-- The row of the table that a token names: the token read unsigned, row 0 for a token beyond the table. -/
def row (w : BitVec 32) : Fin 100000 := if h : w.toNat < 100000 then ⟨w.toNat, h⟩ else ⟨0, by decide⟩

/-- 1 at the positions before the sequence's length, 0 after. -/
def keep (len : BitVec 32) (l : Fin 200) : EReal := if (l.val : ℤ) < len.toInt then 1 else 0

/-- The pooling's divisor: the length, but at least 1. -/
def divisor (len : BitVec 32) : EReal := max ((len.toInt : ℝ) : EReal) 1

/-- Hidden lane `j` of one token: `tanh (e · w + x · k)`. -/
def hidden {d n : ℕ} (e : Fin d → EReal) (w : Fin d → Fin 128 → EReal) (x : Fin n → EReal) (k : Fin n → Fin 128 → EReal)
    (j : Fin 128) : EReal :=
  Ideal.tanh ((∑ i, e i * w i j) + ∑ i, x i * k i j)

/-- Hidden lane `j` of one sequence: the masked mean of its tokens' hidden lanes. -/
def pooled (len : BitVec 32) (h : Fin 200 → Fin 128 → EReal) (j : Fin 128) : EReal :=
  Ideal.div (∑ l, h l j * keep len l) (divisor len)

/-- Class `y`'s logit of one sequence: `p · u + b`. -/
def logit {n : ℕ} (p : Fin 128 → EReal) (u : Fin 128 → Fin n → EReal) (b : Fin n → EReal) (y : Fin n) : EReal :=
  (∑ j, p j * u j y) + b y

/-- One head: the logits of every sequence. -/
def head {n : ℕ} (tok : IVec ⟨2, ![1024, 200]⟩ 32) (len : IVec ⟨1, ![1024]⟩ 32) (men : (⟨3, ![1024, 200, n]⟩ : Shape).Idx → EReal)
    (tab : (⟨2, ![100000, 64]⟩ : Shape).Idx → EReal) (w : (⟨2, ![64, 128]⟩ : Shape).Idx → EReal) (k : (⟨2, ![n, 128]⟩ : Shape).Idx → EReal)
    (u : (⟨2, ![128, n]⟩ : Shape).Idx → EReal) (b : (⟨1, ![n]⟩ : Shape).Idx → EReal) (s : Fin 1024) (y : Fin n) : EReal :=
  logit (pooled (len (ix1 s)) fun l =>
      hidden (fun i => tab (ix2 (row (tok (ix2 s l))) i)) (fun i j => w (ix2 i j)) (fun i => men (ix3 s l i)) (fun i j => k (ix2 i j)))
    (fun j y => u (ix2 j y)) (fun y => b (ix1 y)) y

/-- A product over 128 lanes of a row and a matrix whose lanes from 64 on are zero is the product over the first 64. -/
theorem sum_padded (f g : Fin 128 → EReal) (e w : Fin 64 → EReal) (hf : ∀ i : Fin 64, f (Fin.castAdd 64 i) = e i)
    (hg : ∀ i : Fin 64, g (Fin.castAdd 64 i) = w i) (hz : ∀ i : Fin 64, f (Fin.natAdd 64 i) = 0) :
    ∑ i, f i * g i = ∑ i, e i * w i := by
  rw [show (∑ i : Fin 128, f i * g i) = ∑ i : Fin (64 + 64), f i * g i from rfl, Fin.sum_univ_add]
  rw [Finset.sum_eq_zero (s := Finset.univ) (f := fun i : Fin 64 => f (Fin.natAdd 64 i) * g (Fin.natAdd 64 i))
    (fun i _ => by rw [hz, zero_mul]), add_zero]
  exact Finset.sum_congr rfl fun i _ => by rw [hf, hg]

/-- Position `l` of a block's sequence `r`, among the block's 1600 tokens. -/
def at1600 (r : Fin 8) (l : Fin 200) : Fin 1600 := ⟨200 * r.val + l.val, by omega⟩

/-- A sum over a block's 1600 tokens against a selection that keeps sequence `r`'s first tokens is the sum over that
    sequence. -/
theorem sum_selected (r : Fin 8) (len : BitVec 32) (f : Fin 1600 → EReal) :
    ∑ q : Fin 1600, (if q.val / 200 = r.val ∧ ((q.val % 200 : ℕ) : ℤ) < len.toInt then (1 : EReal) else 0) * f q
      = ∑ l, f (at1600 r l) * keep len l := by
  rw [← Equiv.sum_comp (finProdFinEquiv (m := 8) (n := 200)), Fintype.sum_prod_type, Finset.sum_eq_single r]
  · refine Finset.sum_congr rfl fun l _ => ?_
    have hv : (finProdFinEquiv (m := 8) (n := 200) (r, l)).val = l.val + 200 * r.val := rfl
    have hq : (finProdFinEquiv (m := 8) (n := 200) (r, l) : Fin 1600) = at1600 r l := Fin.ext (by rw [hv]; show _ = 200 * r.val + l.val; omega)
    rw [hq, mul_comm]
    have hd : (at1600 r l).val / 200 = r.val := by show (200 * r.val + l.val) / 200 = _; omega
    have hm : (at1600 r l).val % 200 = l.val := by show (200 * r.val + l.val) % 200 = _; omega
    rw [hd, hm]
    simp only [keep, true_and]
  · intro r' _ hr
    refine Finset.sum_eq_zero fun l _ => ?_
    have hv : (finProdFinEquiv (m := 8) (n := 200) (r', l)).val = l.val + 200 * r'.val := rfl
    have hd : (finProdFinEquiv (m := 8) (n := 200) (r', l)).val / 200 = r'.val := by rw [hv]; omega
    rw [if_neg (fun h => hr (Fin.ext (hd.symm.trans h.1))), zero_mul]
  · exact fun h => absurd (Finset.mem_univ r) h

end Cert.Proof.Value

end
-- ==== Proof.Value.Block.lean ====
/-
  What the dense kernel's body computes from one block's inputs, read at an index: the block's eight sequences pooled and
  taken through the head.
-/
module

public import proofs.«01_k».proof.Proof.KernelIdealRun.Body
public import proofs.«01_k».proof.Proof.Value.Spec

@[expose] public section

noncomputable section

namespace Cert.Proof.Value

open Cert.KernelIdeal Cert.KernelIdeal.Gen Idealize.ShloMosaic Cert.Proof.KernelIdealRun

/-- The lengths' cast to their own shape changes nothing. -/
theorem pay5_eq (lens : Vec Ideal S8x1 .i32) : k1_pay5 (F := Ideal) lens = lens := shapeCast_self _ _

/-- The selection matrix the body builds, from a block's lengths. -/
abbrev sel (lens : Vec Ideal S8x1 .i32) : FVec Ideal S8x1600 .f32 :=
  k1_pay8 (F := Ideal) (k1_pay5 (F := Ideal) lens) (iota .tc S8x1600 32 [0] iota_S8x1600_d0_w32) (iota .tc S8x1600 32 [1] iota_S8x1600_d1_w32)
    200#32 k1_pay6 k1_pay7 (Scalar.extui (Scalar.cmpi .sgt 200#32 0#32))

/-- The quotient by 200 that the body takes of a token's position: rounded towards zero, one less where the signs
    differ and the remainder is not zero. -/
abbrev quot (q : BitVec 32) : BitVec 32 :=
  Scalar.select
    (IntOp.andi
      (IntOp.cmpi .ne (IntOp.subi ((IntOp.cmpi .sgt q 0#32).setWidth 32) ((IntOp.cmpi .slt q 0#32).setWidth 32))
        (Scalar.subi (Scalar.extui (Scalar.cmpi .sgt 200#32 0#32)) (Scalar.extui (Scalar.cmpi .slt 200#32 0#32))))
      (IntOp.cmpi .ne (IntOp.remsi .vector q 200#32) 0#32))
    (IntOp.subi (IntOp.divsi .vector q 200#32) 1#32) (IntOp.divsi .vector q 200#32)

/-- Of a position that is the position's sequence among the block's eight. -/
theorem quot_eq : ∀ q : Fin 1600, quot (BitVec.ofNat 32 q.val) = BitVec.ofNat 32 (q.val / 200) := by decide +kernel

/-- The rest is the position within the sequence. -/
theorem rest_eq : ∀ q : Fin 1600, (IntOp.subi (BitVec.ofNat 32 q.val) (IntOp.muli (BitVec.ofNat 32 (q.val / 200)) 200#32)).toInt
    = ((q.val % 200 : ℕ) : ℤ) := by decide +kernel

/-- Sequence numbers as words are equal when the numbers are. -/
theorem quot_row : ∀ q : Fin 1600, ∀ r : Fin 8, BitVec.ofNat 32 (q.val / 200) = BitVec.ofNat 32 r.val ↔ q.val / 200 = r.val := by decide +kernel

/-- It selects, for sequence `r`, its own tokens before its length. -/
theorem sel_apply (lens : Vec Ideal S8x1 .i32) (r : Fin 8) (q : Fin 1600) :
    sel lens (ix2 r q) = if q.val / 200 = r.val ∧ ((q.val % 200 : ℕ) : ℤ) < (lens (ix2 r 0)).toInt then (1 : EReal) else 0 := by
  have e : sel lens (ix2 r q) = Scalar.select
      (IntOp.andi (IntOp.cmpi .eq (quot (BitVec.ofNat 32 q.val)) (BitVec.ofNat 32 r.val))
        (IntOp.cmpi .slt (IntOp.subi (BitVec.ofNat 32 q.val) (IntOp.muli (quot (BitVec.ofNat 32 q.val)) 200#32)) (lens (ix2 r 0))))
      (1 : EReal) 0 := by
    pointwise [sel, k1_pay8, k1_pay5, k1_pay6, k1_pay7]
  rw [e, quot_eq]
  by_cases h : q.val / 200 = r.val ∧ ((q.val % 200 : ℕ) : ℤ) < (lens (ix2 r 0)).toInt
  · rw [if_pos h, show IntOp.andi _ _ = 1#1 from IntOp.andi_eq_one.2 ⟨IntOp.cmpi_eq.2 ((quot_row q r).2 h.1), IntOp.cmpi_slt.2 (by rw [rest_eq]; exact h.2)⟩]
    rfl
  · rw [if_neg h]
    have hn : ¬ IntOp.andi (IntOp.cmpi .eq (BitVec.ofNat 32 (q.val / 200)) (BitVec.ofNat 32 r.val))
        (IntOp.cmpi .slt (IntOp.subi (BitVec.ofNat 32 q.val) (IntOp.muli (BitVec.ofNat 32 (q.val / 200)) 200#32)) (lens (ix2 r 0))) = 1#1 := by
      intro h'
      obtain ⟨h1, h2⟩ := IntOp.andi_eq_one.1 h'
      exact h ⟨(quot_row q r).1 (IntOp.cmpi_eq.1 h1), by rw [← rest_eq]; exact IntOp.cmpi_slt.1 h2⟩
    rw [ValueIdx.eq_zero_of_ne_one hn]
    rfl

/-- The first result's block at sequence `r`, class `y`. -/
theorem tBlock_apply (lens : Vec Ideal S8x1 .i32) (emb : Vec Ideal S1600x128 .f32) (mt : Vec Ideal S1600x10 .f32) (wt : Vec Ideal S128x128 .f32)
    (kt : Vec Ideal S10x128 .f32) (ut : Vec Ideal S128x10 .f32) (bt : Vec Ideal S1x10 .f32) (r : Fin 8) (y : Fin 10) :
    tBlock lens emb mt wt kt ut bt (ix2 r y)
      = logit (pooled (lens (ix2 r 0)) fun l => hidden (fun i => emb (ix2 (at1600 r l) i)) (fun i j => wt (ix2 i j))
          (fun i => mt (ix2 (at1600 r l) i)) (fun i j => kt (ix2 i j))) (fun j y => ut (ix2 j y)) (fun y => bt (ix2 0 y)) y := by
  have e : tBlock lens emb mt wt kt ut bt (ix2 r y)
      = (∑ j : Fin 128, Ideal.div (∑ q : Fin 1600, sel lens (ix2 r q)
          * hidden (fun i => emb (ix2 q i)) (fun i j => wt (ix2 i j)) (fun i => mt (ix2 q i)) (fun i j => kt (ix2 i j)) j)
            (divisor (lens (ix2 r 0))) * ut (ix2 j y)) + bt (ix2 0 y) := by
    unfold tBlock k1_pay11
    pointwise [k1_pay3, k1_pay2, k1_pay9, k1_pay5, hidden, divisor]
    simp only [sel, pay5_eq]
    rfl
  rw [e]
  simp only [sel_apply, sum_selected]
  rfl

/-- The second result's block at sequence `r`, class `y`. -/
theorem sBlock_apply (lens : Vec Ideal S8x1 .i32) (emb : Vec Ideal S1600x128 .f32) (ms : Vec Ideal S1600x3 .f32) (ws : Vec Ideal S128x128 .f32)
    (ks : Vec Ideal S3x128 .f32) (us : Vec Ideal S128x3 .f32) (bs : Vec Ideal S1x3 .f32) (r : Fin 8) (y : Fin 3) :
    sBlock lens emb ms ws ks us bs (ix2 r y)
      = logit (pooled (lens (ix2 r 0)) fun l => hidden (fun i => emb (ix2 (at1600 r l) i)) (fun i j => ws (ix2 i j))
          (fun i => ms (ix2 (at1600 r l) i)) (fun i j => ks (ix2 i j))) (fun j y => us (ix2 j y)) (fun y => bs (ix2 0 y)) y := by
  have e : sBlock lens emb ms ws ks us bs (ix2 r y)
      = (∑ j : Fin 128, Ideal.div (∑ q : Fin 1600, sel lens (ix2 r q)
          * hidden (fun i => emb (ix2 q i)) (fun i j => ws (ix2 i j)) (fun i => ms (ix2 q i)) (fun i j => ks (ix2 i j)) j)
            (divisor (lens (ix2 r 0))) * us (ix2 j y)) + bs (ix2 0 y) := by
    unfold sBlock k1_pay1 k1_pay10
    pointwise [k1_pay4, k1_pay2, k1_pay9, k1_pay5, hidden, divisor]
    simp only [sel, pay5_eq]
    rfl
  rw [e]
  simp only [sel_apply, sum_selected]
  rfl

end Cert.Proof.Value

end
-- ==== Proof.Value.Inputs.lean ====
/-
  What the dense kernel reads at each grid point, in terms of the program's arguments: eight sequences' lengths, their 1600
  gathered rows and mention features, and the weights.
-/
module

public import proofs.«01_k».proof.Proof.KernelIdealRun.Contents
public import proofs.«01_k».proof.Proof.Value.Spec
public import Idealize.ShloMosaic.Lib.Pipeline.ValueKit
public import Idealize.ShloMosaic.Lib.KernelVsHost

@[expose] public section

noncomputable section

namespace Cert.Proof.Value

open Cert.KernelIdeal Cert.KernelIdeal.Gen Idealize.ShloMosaic Idealize.ShloMosaic.TcCoe Cert.Proof.KernelIdealRun

/-! ## The windows' blocks -/

/-! A window whose block index is `(t, 0)`: the lengths, the gathered rows, the mention features and the two results. -/

theorem index_0 : ∀ t : Fin cfg1.N, win1_0.index t = ![t.val, 0] := (by decide +kernel : ∀ t : Fin grid1.N, win1_0.index t = ![t.val, 0])
theorem index_1 : ∀ t : Fin cfg1.N, win1_1.index t = ![t.val, 0] := (by decide +kernel : ∀ t : Fin grid1.N, win1_1.index t = ![t.val, 0])
theorem index_2 : ∀ t : Fin cfg1.N, win1_2.index t = ![t.val, 0] := (by decide +kernel : ∀ t : Fin grid1.N, win1_2.index t = ![t.val, 0])
theorem index_3 : ∀ t : Fin cfg1.N, win1_3.index t = ![t.val, 0] := (by decide +kernel : ∀ t : Fin grid1.N, win1_3.index t = ![t.val, 0])
theorem index_12 : ∀ t : Fin cfg1.N, win1_12.index t = ![t.val, 0] := (by decide +kernel : ∀ t : Fin grid1.N, win1_12.index t = ![t.val, 0])
theorem index_13 : ∀ t : Fin cfg1.N, win1_13.index t = ![t.val, 0] := (by decide +kernel : ∀ t : Fin grid1.N, win1_13.index t = ![t.val, 0])

/-- Sequence `r` of grid point `t`'s eight. -/
def seqAt (t : Fin cfg1.N) (r : Fin 8) : Fin 1024 := ⟨t.val * 8 + r.val, by have h : t.val < 128 := t.isLt; omega⟩

/-- Row `q` of grid point `t`'s 1600. -/
def rowOf (t : Fin cfg1.N) (q : Fin 1600) : Fin 204800 := ⟨t.val * 1600 + q.val, by have h : t.val < 128 := t.isLt; omega⟩

variable (V : (c : Dev nD) → (b : Ref sig .tc) → Buf (Elt Ideal) ((c : Thread nD τ).loc b)) (c : Dev nD) (t : Fin cfg1.N)

/-- Point `t`'s lengths are its eight sequences'; -/
theorem block_0 (r : Fin 8) (z : Fin 1) : (blockAt V c 0 t : Vec Ideal S8x1 .i32) (ix2 r z) = (V c main_v5 : Vec Ideal S1024x1 .i32) (ix2 (seqAt t r) z) := by
  show V c main_v5 ((win1_0.blk t).view.emb (ix2 r z)) = _
  refine congrArg (V c main_v5) (funext fun a => Fin.ext ?_)
  blk_simp [index_0]
  match a with
  | ⟨0, _⟩ => rfl
  | ⟨1, _⟩ => exact Nat.zero_add _

/-- its rows are its 1600 of the gathered rows; -/
theorem block_1 (q : Fin 1600) (i : Fin 128) :
    (blockAt V c 1 t : Vec Ideal S1600x128 .f32) (ix2 q i) = (V c main_v4 : Vec Ideal S204800x128 .f32) (ix2 (rowOf t q) i) := by
  show V c main_v4 ((win1_1.blk t).view.emb (ix2 q i)) = _
  refine congrArg (V c main_v4) (funext fun a => Fin.ext ?_)
  blk_simp [index_1]
  match a with
  | ⟨0, _⟩ => rfl
  | ⟨1, _⟩ => exact Nat.zero_add _

/-- its mention features are those rows' of the theme -/
theorem block_2 (q : Fin 1600) (i : Fin 10) :
    (blockAt V c 2 t : Vec Ideal S1600x10 .f32) (ix2 q i) = (V c main_v6 : Vec Ideal S204800x10 .f32) (ix2 (rowOf t q) i) := by
  show V c main_v6 ((win1_2.blk t).view.emb (ix2 q i)) = _
  refine congrArg (V c main_v6) (funext fun a => Fin.ext ?_)
  blk_simp [index_2]
  match a with
  | ⟨0, _⟩ => rfl
  | ⟨1, _⟩ => exact Nat.zero_add _

/-- and of the sentiment. -/
theorem block_3 (q : Fin 1600) (i : Fin 3) :
    (blockAt V c 3 t : Vec Ideal S1600x3 .f32) (ix2 q i) = (V c main_v7 : Vec Ideal S204800x3 .f32) (ix2 (rowOf t q) i) := by
  show V c main_v7 ((win1_3.blk t).view.emb (ix2 q i)) = _
  refine congrArg (V c main_v7) (funext fun a => Fin.ext ?_)
  blk_simp [index_3]
  match a with
  | ⟨0, _⟩ => rfl
  | ⟨1, _⟩ => exact Nat.zero_add _

/-! The other inputs' blocks are their whole arrays. -/

theorem block_4 : (blockAt V c 4 t : Vec Ideal S128x128 .f32) = V c main_v2 := by
  funext x
  show V c main_v2 ((win1_4.blk t).view.emb x) = _
  refine congrArg (V c main_v2) (funext fun a => Fin.ext ?_)
  exact win1_4.rect_emb_val_of_index_zero t a (by match a with | ⟨0, _⟩ => rfl | ⟨1, _⟩ => rfl) x

theorem block_5 : (blockAt V c 5 t : Vec Ideal S10x128 .f32) = V c main_arg6 := by
  funext x
  show V c main_arg6 ((win1_5.blk t).view.emb x) = _
  refine congrArg (V c main_arg6) (funext fun a => Fin.ext ?_)
  exact win1_5.rect_emb_val_of_index_zero t a (by match a with | ⟨0, _⟩ => rfl | ⟨1, _⟩ => rfl) x

theorem block_6 : (blockAt V c 6 t : Vec Ideal S128x128 .f32) = V c main_v3 := by
  funext x
  show V c main_v3 ((win1_6.blk t).view.emb x) = _
  refine congrArg (V c main_v3) (funext fun a => Fin.ext ?_)
  exact win1_6.rect_emb_val_of_index_zero t a (by match a with | ⟨0, _⟩ => rfl | ⟨1, _⟩ => rfl) x

theorem block_7 : (blockAt V c 7 t : Vec Ideal S3x128 .f32) = V c main_arg8 := by
  funext x
  show V c main_arg8 ((win1_7.blk t).view.emb x) = _
  refine congrArg (V c main_arg8) (funext fun a => Fin.ext ?_)
  exact win1_7.rect_emb_val_of_index_zero t a (by match a with | ⟨0, _⟩ => rfl | ⟨1, _⟩ => rfl) x

theorem block_8 : (blockAt V c 8 t : Vec Ideal S128x10 .f32) = V c main_arg9 := by
  funext x
  show V c main_arg9 ((win1_8.blk t).view.emb x) = _
  refine congrArg (V c main_arg9) (funext fun a => Fin.ext ?_)
  exact win1_8.rect_emb_val_of_index_zero t a (by match a with | ⟨0, _⟩ => rfl | ⟨1, _⟩ => rfl) x

theorem block_9 : (blockAt V c 9 t : Vec Ideal S1x10 .f32) = V c main_v8 := by
  funext x
  show V c main_v8 ((win1_9.blk t).view.emb x) = _
  refine congrArg (V c main_v8) (funext fun a => Fin.ext ?_)
  exact win1_9.rect_emb_val_of_index_zero t a (by match a with | ⟨0, _⟩ => rfl | ⟨1, _⟩ => rfl) x

theorem block_10 : (blockAt V c 10 t : Vec Ideal S128x3 .f32) = V c main_arg11 := by
  funext x
  show V c main_arg11 ((win1_10.blk t).view.emb x) = _
  refine congrArg (V c main_arg11) (funext fun a => Fin.ext ?_)
  exact win1_10.rect_emb_val_of_index_zero t a (by match a with | ⟨0, _⟩ => rfl | ⟨1, _⟩ => rfl) x

theorem block_11 : (blockAt V c 11 t : Vec Ideal S1x3 .f32) = V c main_v9 := by
  funext x
  show V c main_v9 ((win1_11.blk t).view.emb x) = _
  refine congrArg (V c main_v9) (funext fun a => Fin.ext ?_)
  exact win1_11.rect_emb_val_of_index_zero t a (by match a with | ⟨0, _⟩ => rfl | ⟨1, _⟩ => rfl) x

/-! ## The arrays they are blocks of, in terms of the arguments -/

variable (m : (ℓ : Loc nD τ sig) → Buf (Elt Ideal) ℓ) (d : Dev nD)

/-- Position `l` of sequence `s`, among all tokens. -/
def flat (s : Fin 1024) (l : Fin 200) : Fin 204800 := ⟨200 * s.val + l.val, by omega⟩

/-- Position `l` of a point's sequence `r`, found in the block or among all tokens, is the same row. -/
theorem rowOf_at1600 (r : Fin 8) (l : Fin 200) : rowOf t (at1600 r l) = flat (seqAt t r) l :=
  Fin.ext (show t.val * 1600 + (200 * r.val + l.val) = 200 * (t.val * 8 + r.val) + l.val by omega)

/-- The lengths, one to a row, are the length argument; -/
theorem lens_apply (s : Fin 1024) (z : Fin 1) :
    (V3r m d main_v5 : Vec Ideal S1024x1 .i32) (ix2 s z) = (m ((SparseCore.T d).loc main_arg1) : IVec S1024 32) (ix1 s) := by
  rw [lens_at]
  refine shapeCast_apply _ _ _ (ix1 s) ?_
  rw [Shape.rowMajor_val_one, Shape.rowMajor_val_two]
  show s.val = s.val * 1 + z.val
  omega

/-- the theme's mention features, one token to a row, are the argument's at the token's place; -/
theorem mt_apply (s : Fin 1024) (l : Fin 200) (i : Fin 10) :
    (V3r m d main_v6 : Vec Ideal S204800x10 .f32) (ix2 (flat s l) i)
      = (m ((SparseCore.T d).loc main_arg2) : FVec Ideal S1024x200x10 .f32) (ix3 s l i) := by
  rw [mt_at]
  refine shapeCast_apply _ _ _ (ix3 s l i) ?_
  rw [Shape.rowMajor_val_three, Shape.rowMajor_val_two]
  show (s.val * 200 + l.val) * 10 + i.val = (200 * s.val + l.val) * 10 + i.val
  omega

/-- likewise the sentiment's; -/
theorem ms_apply (s : Fin 1024) (l : Fin 200) (i : Fin 3) :
    (V3r m d main_v7 : Vec Ideal S204800x3 .f32) (ix2 (flat s l) i)
      = (m ((SparseCore.T d).loc main_arg3) : FVec Ideal S1024x200x3 .f32) (ix3 s l i) := by
  rw [ms_at]
  refine shapeCast_apply _ _ _ (ix3 s l i) ?_
  rw [Shape.rowMajor_val_three, Shape.rowMajor_val_two]
  show (s.val * 200 + l.val) * 3 + i.val = (200 * s.val + l.val) * 3 + i.val
  omega

/-- and the two biases, as one row, are the arguments. -/
theorem bt_apply (z : Fin 1) (y : Fin 10) :
    (V3r m d main_v8 : Vec Ideal S1x10 .f32) (ix2 z y) = (m ((SparseCore.T d).loc main_arg10) : FVec Ideal S10 .f32) (ix1 y) := by
  rw [bt_at]
  refine shapeCast_apply _ _ _ (ix1 y) ?_
  rw [Shape.rowMajor_val_one, Shape.rowMajor_val_two]
  show y.val = z.val * 10 + y.val
  omega

theorem bs_apply (z : Fin 1) (y : Fin 3) :
    (V3r m d main_v9 : Vec Ideal S1x3 .f32) (ix2 z y) = (m ((SparseCore.T d).loc main_arg12) : FVec Ideal S3 .f32) (ix1 y) := by
  rw [bs_at]
  refine shapeCast_apply _ _ _ (ix1 y) ?_
  rw [Shape.rowMajor_val_one, Shape.rowMajor_val_two]
  show y.val = z.val * 3 + y.val
  omega

/-- The word the gather reads for a position is that position's token. -/
theorem ids_apply (s : Fin 1024) (l : Fin 200) :
    (ids m d : IVec S204800 32) (ix1 (flat s l)) = (m ((SparseCore.T d).loc main_arg0) : IVec S1024x200 32) (ix2 s l) := by
  rw [ids_eq]
  refine shapeCast_apply _ _ _ (ix2 s l) ?_
  rw [Shape.rowMajor_val_one, Shape.rowMajor_val_two]
  show s.val * 200 + l.val = 200 * s.val + l.val
  omega

/-- A padding value: the integer zero, converted. -/
theorem padding_zero (i : S_.Idx) : (sitofp .f32 (constantI S_ 32 0#32) : FVec Ideal S_ .f32) i = 0 := sitofp_zero

/-- The padded table is the table on the first 64 lanes, -/
theorem tab_low (b : Fin 100000) (i : Fin 64) :
    (tab m d : FVec Ideal S100000x128 .f32) (ix2 b (Fin.castAdd 64 i)) = (m ((SparseCore.T d).loc main_arg4) : FVec Ideal S100000x64 .f32) (ix2 b i) := by
  rw [tab_eq]
  refine pad_apply_of_inside _ _ _ _ _ _ _ _ (ix2 b i) fun a => ?_
  match a with
  | ⟨0, _⟩ => show b.val = 0 + b.val * (0 + 1); omega
  | ⟨1, _⟩ => show i.val = 0 + i.val * (0 + 1); omega

/-- and zero on the rest. -/
theorem tab_high (b : Fin 100000) (i : Fin 64) : (tab m d : FVec Ideal S100000x128 .f32) (ix2 b (Fin.natAdd 64 i)) = 0 := by
  rw [tab_eq]
  refine (pad_apply_of_not_inside _ _ _ _ _ _ _ _ 1 fun h => ?_).trans (padding_zero _)
  have h2 : (64 + i.val - 0) / (0 + 1) < 64 := h.2.2
  omega

/-- The padded theme weights are the weights on the first 64 rows; -/
theorem wt_low (i : Fin 64) (j : Fin 128) :
    (V3r m d main_v2 : FVec Ideal S128x128 .f32) (ix2 (Fin.castAdd 64 i) j) = (m ((SparseCore.T d).loc main_arg5) : FVec Ideal S64x128 .f32) (ix2 i j) := by
  rw [wt_at]
  refine pad_apply_of_inside _ _ _ _ _ _ _ _ (ix2 i j) fun a => ?_
  match a with
  | ⟨0, _⟩ => show i.val = 0 + i.val * (0 + 1); omega
  | ⟨1, _⟩ => show j.val = 0 + j.val * (0 + 1); omega

/-- so are the padded sentiment weights. -/
theorem ws_low (i : Fin 64) (j : Fin 128) :
    (V3r m d main_v3 : FVec Ideal S128x128 .f32) (ix2 (Fin.castAdd 64 i) j) = (m ((SparseCore.T d).loc main_arg7) : FVec Ideal S64x128 .f32) (ix2 i j) := by
  rw [ws_at]
  refine pad_apply_of_inside _ _ _ _ _ _ _ _ (ix2 i j) fun a => ?_
  match a with
  | ⟨0, _⟩ => show i.val = 0 + i.val * (0 + 1); omega
  | ⟨1, _⟩ => show j.val = 0 + j.val * (0 + 1); omega

/-- What the gather leaves at a position: the padded table's row at its token. -/
theorem emb_apply (s : Fin 1024) (l : Fin 200) (i : Fin 128) :
    (V3r m d main_v4 : FVec Ideal S204800x128 .f32) (ix2 (flat s l) i)
      = (tab m d : FVec Ideal S100000x128 .f32) (ix2 (row ((m ((SparseCore.T d).loc main_arg0) : IVec S1024x200 32) (ix2 s l))) i) := by
  rw [emb_eq, ← ids_apply m d s l]
  unfold gathered
  refine congrArg (tab m d) (funext fun a => ?_)
  have e : (fun | 0 => flat s l : S204800.Idx) = ix1 (flat s l) := funext fun a => by match a with | ⟨0, _⟩ => rfl
  match a with
  | ⟨0, _⟩ =>
    show rowAt (ids m d fun | 0 => flat s l) = row (ids m d (ix1 (flat s l)))
    rw [e]
    rfl
  | ⟨1, _⟩ => rfl

/-! ## One token's hidden lanes -/

/-- The hidden lanes from the padded table and weights are those from the table and the weights. -/
theorem hidden_padded {n : ℕ} (f : Fin 128 → EReal) (g : Fin 128 → Fin 128 → EReal) (e : Fin 64 → EReal) (w : Fin 64 → Fin 128 → EReal)
    (x : Fin n → EReal) (k : Fin n → Fin 128 → EReal) (hf : ∀ i, f (Fin.castAdd 64 i) = e i) (hz : ∀ i : Fin 64, f (Fin.natAdd 64 i) = 0)
    (hg : ∀ i j, g (Fin.castAdd 64 i) j = w i j) : hidden f g x k = hidden e w x k := by
  funext j
  unfold hidden
  rw [sum_padded f (fun i => g i j) e (fun i => w i j) hf (fun i => hg i j) hz]

end Cert.Proof.Value

end
-- ==== Proof.Value.Array.lean ====
/-
  What the kernel's two result arrays hold at the end: the two heads of the arguments, at every sequence and class.
-/
module

public import proofs.«01_k».proof.Proof.Value.Block
public import proofs.«01_k».proof.Proof.Value.Inputs

@[expose] public section

noncomputable section

namespace Cert.Proof.Value

open Cert.KernelIdeal Cert.KernelIdeal.Gen Idealize.ShloMosaic Idealize.ShloMosaic.TcCoe Cert.Proof.KernelIdealRun
open Idealize.ShloMosaic.Pipeline (Dat arrRef)

variable (m : (ℓ : Loc nD τ sig) → Buf (Elt Ideal) ℓ) (d : Dev nD)

/-- The theme head of a memory's arguments, -/
def themeHead (s : Fin 1024) (y : Fin 10) : EReal :=
  head (m ((SparseCore.T d).loc main_arg0)) (m ((SparseCore.T d).loc main_arg1)) (m ((SparseCore.T d).loc main_arg2))
    (m ((SparseCore.T d).loc main_arg4)) (m ((SparseCore.T d).loc main_arg5)) (m ((SparseCore.T d).loc main_arg6))
    (m ((SparseCore.T d).loc main_arg9)) (m ((SparseCore.T d).loc main_arg10)) s y

/-- and the sentiment head. -/
def sentiHead (s : Fin 1024) (y : Fin 3) : EReal :=
  head (m ((SparseCore.T d).loc main_arg0)) (m ((SparseCore.T d).loc main_arg1)) (m ((SparseCore.T d).loc main_arg3))
    (m ((SparseCore.T d).loc main_arg4)) (m ((SparseCore.T d).loc main_arg7)) (m ((SparseCore.T d).loc main_arg8))
    (m ((SparseCore.T d).loc main_arg11)) (m ((SparseCore.T d).loc main_arg12)) s y

variable (t : Fin cfg1.N)

/-- Grid point `t` computes its eight sequences' theme logits -/
theorem tAt_apply (r : Fin 8) (y : Fin 10) : tAt (V3r m) d t (ix2 r y) = themeHead m d (seqAt t r) y := by
  unfold tAt themeHead head
  rw [tBlock_apply, block_0, lens_apply, block_4, block_5, block_8, block_9, V3r_kept m d main_arg6 (by decide) (by decide) (by decide),
    V3r_kept m d main_arg9 (by decide) (by decide) (by decide)]
  simp only [block_1, block_2, rowOf_at1600, emb_apply, mt_apply, bt_apply]
  refine congrArg (fun h => logit (pooled _ h) _ _ y) (funext fun l => ?_)
  exact hidden_padded _ _ _ _ _ _ (fun i => tab_low m d _ i) (fun i => tab_high m d _ i) (fun i j => wt_low m d i j)

/-- and their sentiment logits. -/
theorem sAt_apply (r : Fin 8) (y : Fin 3) : sAt (V3r m) d t (ix2 r y) = sentiHead m d (seqAt t r) y := by
  unfold sAt sentiHead head
  rw [sBlock_apply, block_0, lens_apply, block_6, block_7, block_10, block_11, V3r_kept m d main_arg8 (by decide) (by decide) (by decide),
    V3r_kept m d main_arg11 (by decide) (by decide) (by decide)]
  simp only [block_1, block_3, rowOf_at1600, emb_apply, ms_apply, bs_apply]
  refine congrArg (fun h => logit (pooled _ h) _ _ y) (funext fun l => ?_)
  exact hidden_padded _ _ _ _ _ _ (fun i => tab_low m d _ i) (fun i => tab_high m d _ i) (fun i j => ws_low m d i j)

/-- The first result array ends holding the theme head, -/
theorem tArr_eq : (tArr (V3r m) d : FVec Ideal S1024x10 .f32) = fun j => themeHead m d (j 0) (j 1) := by
  refine (dat (V3r m) d).arrAt_eq_of_covers 12 (fun j : S1024x10.Idx => themeHead m d (j 0) (j 1)) (by decide +kernel) fun t _ x => ?_
  show tAt (V3r m) d t x = themeHead m d ((win1_12.blk t).view.emb x 0) ((win1_12.blk t).view.emb x 1)
  obtain ⟨r, y, rfl⟩ : ∃ (r : Fin 8) (y : Fin 10), x = ix2 r y := ⟨_, _, eq_ix2 x⟩
  have h0 : (win1_12.blk t).view.emb (ix2 r y) 0 = seqAt t r := Fin.ext (by blk_simp [index_12]; rfl)
  have h1 : (win1_12.blk t).view.emb (ix2 r y) 1 = y := Fin.ext (by blk_simp [index_12])
  rw [h0, h1]
  exact tAt_apply m d t r y

/-- the second the sentiment head. -/
theorem sArr_eq : (sArr (V3r m) d : FVec Ideal S1024x3 .f32) = fun j => sentiHead m d (j 0) (j 1) := by
  refine (dat (V3r m) d).arrAt_eq_of_covers 13 (fun j : S1024x3.Idx => sentiHead m d (j 0) (j 1)) (by decide +kernel) fun t _ x => ?_
  show sAt (V3r m) d t x = sentiHead m d ((win1_13.blk t).view.emb x 0) ((win1_13.blk t).view.emb x 1)
  obtain ⟨r, y, rfl⟩ : ∃ (r : Fin 8) (y : Fin 3), x = ix2 r y := ⟨_, _, eq_ix2 x⟩
  have h0 : (win1_13.blk t).view.emb (ix2 r y) 0 = seqAt t r := Fin.ext (by blk_simp [index_13]; rfl)
  have h1 : (win1_13.blk t).view.emb (ix2 r y) 1 = y := Fin.ext (by blk_simp [index_13])
  rw [h0, h1]
  exact sAt_apply m d t r y

end Cert.Proof.Value

end
-- ==== Proof.Value.Reference.lean ====
/-
  What the reference computes, read at an index: its two results are the two heads of its arguments, for tokens within the
  table.
-/
module

public import proofs.«01_k».proof.Proof.Gen.ReferenceIdeal
public import proofs.«01_k».proof.Proof.Value.Spec
public import Idealize.ShloMosaic.Lib.ReduceAll
public import Idealize.ShloMosaic.Lib.StableHlo.Predicate

@[expose] public section

noncomputable section

namespace Cert.Proof.Value

open Cert.ReferenceIdeal Cert.ReferenceIdeal.Gen Idealize.ShloMosaic

/-! ## The embedding lookup -/

variable (tok : IVec S1024x200 32) (len : IVec S1024 32) (tab : FVec Ideal S100000x64 .f32)

/-- The rows the lookup starts at: the tokens, a negative one counted from the table's end. -/
abbrev starts : IVec S1024x200x1 32 :=
  broadcastInDim S1024x200x1 ![0, 1] bcast_S1024x200_S1024x200x1_0_1
    (select (cmpi .slt tok (broadcastInDim S1024x200 ![] bcast_S_S1024x200 (constantI S_ 32 0#32)))
      (addi tok (broadcastInDim S1024x200 ![] bcast_S_S1024x200 (constantI S_ 32 100000#32))) tok)

/-- Which of the lookups are within the table. -/
abbrev within : IVec S1024x200 1 :=
  Host.reduce IntOp.andi
    (andi (cmpi .sge (starts tok) (broadcastInDim S1024x200x1 ![] bcast_S_S1024x200x1 (constantI S_ 32 0#32)))
      (cmpi .sle (starts tok) (broadcastInDim S1024x200x1 ![0, 1, 2] bcast_S1x1x1_S1024x200x1_0_1_2
        (broadcastInDim S1x1x1 ![2] bcast_S1_S1x1x1_2 (constantI S1 32 99999#32)))))
    (constantI S_ 1 1#1) reducesTo_S1024x200x1_S1024x200_d2 h_S_

/-- The looked-up rows. -/
abbrev taken : FVec Ideal S1024x200x64 .f32 :=
  select (broadcastInDim S1024x200x64 ![0, 1] bcast_S1024x200_S1024x200x64_0_1 (within tok))
    (Host.gather gather_S100000x64_S1024x200x1_S1024x200x64_2_0_n_n_0_2_164 tab (starts tok))
    (broadcastInDim S1024x200x64 ![] bcast_S_S1024x200x64 (constant S_ .f32 0x7FC00000#32))

/-- For a token within the table, the start is the token. -/
theorem starts_apply (h : ∀ i, (tok i).toNat < 100000) (s : Fin 1024) (l : Fin 200) (z : Fin 1) :
    starts tok (ix3 s l z) = tok (ix2 s l) := by
  have e : starts tok (ix3 s l z) = Scalar.select (IntOp.cmpi .slt (tok (ix2 s l)) 0#32) (IntOp.addi (tok (ix2 s l)) 100000#32) (tok (ix2 s l)) := by
    pointwise [starts]
  have hn : ¬ IntOp.cmpi .slt (tok (ix2 s l)) 0#32 = 1#1 := fun h' => by
    have h1 := IntOp.cmpi_slt.1 h'
    rw [StableHlo.Predicate.toInt_eq_toNat_of_lt (lt_trans (h _) (by decide)), show (0#32 : BitVec 32).toInt = 0 from rfl] at h1
    omega
  rw [e, ValueIdx.eq_zero_of_ne_one hn]
  rfl

/-- Such a lookup is within the table. -/
theorem within_apply (h : ∀ i, (tok i).toNat < 100000) (s : Fin 1024) (l : Fin 200) : within tok (ix2 s l) = 1#1 := by
  refine Host.reduce_andi_one _ _ _ _ _ rfl fun i => ?_
  obtain ⟨s', l', z, rfl⟩ : ∃ a b c, i = ix3 a b c := ⟨_, _, _, eq_ix3 i⟩
  refine IntOp.andi_eq_one.2 ⟨IntOp.cmpi_sge.2 ?_, IntOp.cmpi_sle.2 ?_⟩
  · show (0#32 : BitVec 32).toInt ≤ (starts tok (ix3 s' l' z)).toInt
    rw [starts_apply tok h, StableHlo.Predicate.toInt_eq_toNat_of_lt (lt_trans (h _) (by decide)), show (0#32 : BitVec 32).toInt = 0 from rfl]
    omega
  · show (starts tok (ix3 s' l' z)).toInt ≤ (99999#32 : BitVec 32).toInt
    rw [starts_apply tok h, StableHlo.Predicate.toInt_eq_toNat_of_lt (lt_trans (h _) (by decide)), show (99999#32 : BitVec 32).toInt = 99999 from by decide]
    have := h (ix2 s' l')
    omega

/-- The gather read at an index: the table's row that the start index names, lane for lane. -/
theorem gather_apply (idx : IVec S1024x200x1 32) (s : Fin 1024) (l : Fin 200) (i : Fin 64) (b : Fin 100000)
    (hb : (idx (ix3 s l 0)).toInt = (b.val : ℤ)) :
    Host.gather gather_S100000x64_S1024x200x1_S1024x200x64_2_0_n_n_0_2_164 tab idx (ix3 s l i) = tab (ix2 b i) := by
  unfold Host.gather
  refine congrArg tab (funext fun a => Fin.ext ?_)
  let d := gather_S100000x64_S1024x200x1_S1024x200x64_2_0_n_n_0_2_164
  show d.start (ix3 s l i) idx a + d.batchCoord (ix3 s l i) a + d.offCoord (ix3 s l i) a = _
  rw [d.batchCoord_eq_zero _ _ (List.not_mem_nil), Nat.add_zero]
  match a with
  | ⟨0, _⟩ =>
    have hm : (0 : Fin 2) ∈ d.startIndexMap := List.mem_singleton.2 rfl
    show d.start (ix3 s l i) idx 0 + d.offCoord (ix3 s l i) 0 = b.val
    rw [d.offCoord_eq_zero _ _ (fun h => ((d.mem_sKept 0).1 h).1 (List.mem_singleton.2 rfl)), Nat.add_zero]
    unfold GatherDims.start
    rw [dif_pos hm]
    have hsi : d.siIdx (ix3 s l i) ⟨d.startIndexMap.idxOf 0, List.idxOf_lt_length_iff.2 hm⟩ = ix3 s l 0 := by
      funext b'
      refine Fin.ext ?_
      match b' with
      | ⟨0, _⟩ => rfl
      | ⟨1, _⟩ => rfl
      | ⟨2, _⟩ => rfl
    rw [hsi, hb]
    show min ((b.val : ℤ)).toNat (100000 - 1) = b.val
    omega
  | ⟨1, _⟩ =>
    have h0 : d.start (ix3 s l i) idx 1 = 0 := dif_neg (show (1 : Fin 2) ∉ ([0] : List (Fin 2)) by decide)
    have h1 : d.offCoord (ix3 s l i) 1 = i.val := rfl
    show d.start (ix3 s l i) idx 1 + d.offCoord (ix3 s l i) 1 = i.val
    rw [h0, h1, Nat.zero_add]

/-- So the looked-up row is the table's row at the token. -/
theorem taken_apply (h : ∀ i, (tok i).toNat < 100000) (s : Fin 1024) (l : Fin 200) (i : Fin 64) :
    taken tok tab (ix3 s l i) = tab (ix2 (row (tok (ix2 s l))) i) := by
  have hw : broadcastInDim S1024x200x64 ![0, 1] bcast_S1024x200_S1024x200x64_0_1 (within tok) (ix3 s l i) = 1#1 := by
    have e : broadcastInDim S1024x200x64 ![0, 1] bcast_S1024x200_S1024x200x64_0_1 (within tok) (ix3 s l i) = within tok (ix2 s l) := by
      pointwise
    rw [e, within_apply tok h]
  show Scalar.select (broadcastInDim S1024x200x64 ![0, 1] bcast_S1024x200_S1024x200x64_0_1 (within tok) (ix3 s l i)) _ _ = _
  rw [hw, ValueIdx.select_one]
  refine gather_apply tab (starts tok) s l i _ ?_
  rw [starts_apply tok h, StableHlo.Predicate.toInt_eq_toNat_of_lt (lt_trans (h _) (by decide))]
  unfold row
  rw [dif_pos (h _)]

/-! ## The masked mean -/

/-- The mask, spread over the hidden lanes. -/
def mask : FVec Ideal S1024x200x128 .f32 :=
  broadcastInDim S1024x200x128 ![0, 1, 2] bcast_S1024x200x1_S1024x200x128_0_1_2
    (broadcastInDim S1024x200x1 ![0, 1] bcast_S1024x200_S1024x200x1_0_1
      (uitofp .f32 (cmpi .slt
        (broadcastInDim S1024x200 ![0, 1] bcast_S1x200_S1024x200_0_1 (broadcastInDim S1x200 ![1] bcast_S200_S1x200_1 (iotaInDim S200 32 0)))
        (broadcastInDim S1024x200 ![0, 1] bcast_S1024x1_S1024x200_0_1 (broadcastInDim S1024x1 ![0] bcast_S1024_S1024x1_0 len)))))

/-- The mask is 1 before the length, 0 after. -/
theorem mask_apply (s : Fin 1024) (l : Fin 200) (j : Fin 128) : mask len (ix3 s l j) = keep (len (ix1 s)) l := by
  have e : mask len (ix3 s l j) = (((IntOp.cmpi .slt (BitVec.ofNat 32 l.val) (len (ix1 s))).toNat : ℝ) : EReal) := by
    pointwise [mask]
    rfl
  have hl : (BitVec.ofNat 32 l.val).toInt = (l.val : ℤ) := StableHlo.Predicate.toInt_ofNat_small _ (by omega)
  rw [e]
  unfold keep
  by_cases h : (l.val : ℤ) < (len (ix1 s)).toInt
  · rw [if_pos h, IntOp.cmpi_slt.2 (by rw [hl]; exact h)]
    simp
  · have hn : ¬ IntOp.cmpi .slt (BitVec.ofNat 32 l.val) (len (ix1 s)) = 1#1 := fun h' => h (by rw [← hl]; exact IntOp.cmpi_slt.1 h')
    rw [if_neg h, ValueIdx.eq_zero_of_ne_one hn]
    simp

/-- The masked mean of the hidden lanes over each sequence. -/
abbrev mean (hid : FVec Ideal S1024x200x128 .f32) : FVec Ideal S1024x128 .f32 :=
  Host.divf (Host.reduceAdd (mulf hid (mask len)) (constant S_ .f32 0x00000000#32) reducesTo_S1024x200x128_S1024x128_d1 h_S_)
    (broadcastInDim S1024x128 ![0, 1] bcast_S1024x1_S1024x128_0_1 (broadcastInDim S1024x1 ![0] bcast_S1024_S1024x1_0
      (maximumf (sitofp .f32 len) (broadcastInDim S1024 ![] bcast_S_S1024 (constant S_ .f32 0x3F800000#32)))))

/-- The masked mean, as one quotient of sums. -/
theorem mean_apply (hid : FVec Ideal S1024x200x128 .f32) (s : Fin 1024) (j : Fin 128) :
    mean len hid (ix2 s j) = Ideal.div (∑ l, hid (ix3 s l j) * keep (len (ix1 s)) l) (divisor (len (ix1 s))) := by
  have e : mean len hid (ix2 s j) = Ideal.div (∑ l, hid (ix3 s l j) * mask len (ix3 s l j)) (divisor (len (ix1 s))) := by
    pointwise [mean, divisor]
    rfl
  rw [e]
  simp only [mask_apply]

/-! ## The two heads -/

/-- The reference's first result: the theme head. -/
theorem theme_apply (h : ∀ i, (tok i).toNat < 100000) (men : FVec Ideal S1024x200x10 .f32) (w : FVec Ideal S64x128 .f32) (k : FVec Ideal S10x128 .f32)
    (u : FVec Ideal S128x10 .f32) (b : FVec Ideal S10 .f32) (s : Fin 1024) (y : Fin 10) :
    addf (Host.dotGeneral dot_S1024x128_S128x10_S1024x10_1_0_0_1_n_n none
        (mean len (Host.tanh (addf (Host.dotGeneral dot_S1024x200x64_S64x128_S1024x200x128_2_0_01_1_n_n none (taken tok tab) w)
          (Host.dotGeneral dot_S1024x200x10_S10x128_S1024x200x128_2_0_01_1_n_n none men k)))) u)
      (broadcastInDim S1024x10 ![0, 1] bcast_S1x10_S1024x10_0_1 (broadcastInDim S1x10 ![1] bcast_S10_S1x10_1 b)) (ix2 s y)
      = head tok len men tab w k u b s y := by
  have hh : ∀ l j, Host.tanh (addf (Host.dotGeneral dot_S1024x200x64_S64x128_S1024x200x128_2_0_01_1_n_n none (taken tok tab) w)
        (Host.dotGeneral dot_S1024x200x10_S10x128_S1024x200x128_2_0_01_1_n_n none men k)) (ix3 s l j)
      = hidden (fun i => tab (ix2 (row (tok (ix2 s l))) i)) (fun i j => w (ix2 i j)) (fun i => men (ix3 s l i)) (fun i j => k (ix2 i j)) j := by
    intro l j
    simp only [← taken_apply tok tab h]
    generalize taken tok tab = T
    pointwise [hidden]
  generalize Host.tanh (addf (Host.dotGeneral dot_S1024x200x64_S64x128_S1024x200x128_2_0_01_1_n_n none (taken tok tab) w)
        (Host.dotGeneral dot_S1024x200x10_S10x128_S1024x200x128_2_0_01_1_n_n none men k)) = H at hh ⊢
  have hm := mean_apply len H s
  generalize mean len H = P at hm ⊢
  have e : addf (Host.dotGeneral dot_S1024x128_S128x10_S1024x10_1_0_0_1_n_n none P u)
      (broadcastInDim S1024x10 ![0, 1] bcast_S1x10_S1024x10_0_1 (broadcastInDim S1x10 ![1] bcast_S10_S1x10_1 b)) (ix2 s y)
      = (∑ j, P (ix2 s j) * u (ix2 j y)) + b (ix1 y) := by
    pointwise
  rw [e]
  simp only [hm, hh]
  rfl

/-- The reference's second result: the sentiment head. -/
theorem senti_apply (h : ∀ i, (tok i).toNat < 100000) (men : FVec Ideal S1024x200x3 .f32) (w : FVec Ideal S64x128 .f32) (k : FVec Ideal S3x128 .f32)
    (u : FVec Ideal S128x3 .f32) (b : FVec Ideal S3 .f32) (s : Fin 1024) (y : Fin 3) :
    addf (Host.dotGeneral dot_S1024x128_S128x3_S1024x3_1_0_0_1_n_n none
        (mean len (Host.tanh (addf (Host.dotGeneral dot_S1024x200x64_S64x128_S1024x200x128_2_0_01_1_n_n none (taken tok tab) w)
          (Host.dotGeneral dot_S1024x200x3_S3x128_S1024x200x128_2_0_01_1_n_n none men k)))) u)
      (broadcastInDim S1024x3 ![0, 1] bcast_S1x3_S1024x3_0_1 (broadcastInDim S1x3 ![1] bcast_S3_S1x3_1 b)) (ix2 s y)
      = head tok len men tab w k u b s y := by
  have hh : ∀ l j, Host.tanh (addf (Host.dotGeneral dot_S1024x200x64_S64x128_S1024x200x128_2_0_01_1_n_n none (taken tok tab) w)
        (Host.dotGeneral dot_S1024x200x3_S3x128_S1024x200x128_2_0_01_1_n_n none men k)) (ix3 s l j)
      = hidden (fun i => tab (ix2 (row (tok (ix2 s l))) i)) (fun i j => w (ix2 i j)) (fun i => men (ix3 s l i)) (fun i j => k (ix2 i j)) j := by
    intro l j
    simp only [← taken_apply tok tab h]
    generalize taken tok tab = T
    pointwise [hidden]
  generalize Host.tanh (addf (Host.dotGeneral dot_S1024x200x64_S64x128_S1024x200x128_2_0_01_1_n_n none (taken tok tab) w)
        (Host.dotGeneral dot_S1024x200x3_S3x128_S1024x200x128_2_0_01_1_n_n none men k)) = H at hh ⊢
  have hm := mean_apply len H s
  generalize mean len H = P at hm ⊢
  have e : addf (Host.dotGeneral dot_S1024x128_S128x3_S1024x3_1_0_0_1_n_n none P u)
      (broadcastInDim S1024x3 ![0, 1] bcast_S1x3_S1024x3_0_1 (broadcastInDim S1x3 ![1] bcast_S3_S1x3_1 b)) (ix2 s y)
      = (∑ j, P (ix2 s j) * u (ix2 j y)) + b (ix1 y) := by
    pointwise
  rw [e]
  simp only [hm, hh]
  rfl

end Cert.Proof.Value

end
-- ==== Proof.lean ====
/-
  The certificate's claims, put together from the modules under Proof/: the runs of the two programs (KernelRun, KernelIdealRun), the
  reference's run, the token range the precondition gives, and the equation between the results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Tokens
public import proofs.«01_k».proof.Proof.KernelRun.Contents
public import proofs.«01_k».proof.Proof.KernelIdealRun.Contents
public import proofs.«01_k».proof.Proof.Value.Array
public import proofs.«01_k».proof.Proof.Value.Reference
public import Idealize.ShloMosaic.Adequacy
public import Idealize.ShloMosaic.Init

@[expose] public section

noncomputable section

namespace Cert.Proof

open Idealize.ShloMosaic Idealize.ShloMosaic.TcCoe Idealize.SL.Sem

/-- The program at machine floats runs, its arguments kept, every semaphore counter back at zero. -/
theorem frame_kernel : Cert.quiescent_Kernel := fun m ρ hpre =>
  (θ_run Cert.Kernel.defs _ _).mono
    (fun _ h => ⟨fun c => by
      obtain ⟨h0, h1, h2, h3, h4, h5, h6, h7, h8, h9, h10, h11, h12⟩ := KernelRun.args_kept m c
      exact ⟨(h.1 c _ rfl).trans h0, (h.1 c _ rfl).trans h1, (h.1 c _ rfl).trans h2, (h.1 c _ rfl).trans h3, (h.1 c _ rfl).trans h4,
        (h.1 c _ rfl).trans h5, (h.1 c _ rfl).trans h6, (h.1 c _ rfl).trans h7, (h.1 c _ rfl).trans h8, (h.1 c _ rfl).trans h9,
        (h.1 c _ rfl).trans h10, (h.1 c _ rfl).trans h11, (h.1 c _ rfl).trans h12⟩, h.2⟩)
    (KernelRun.run m ρ (KernelRun.ids_lt m fun d i => token_lt (hpre d) i))

/-- The program at ideal floats: every result and argument at its final contents, every semaphore counter back at zero. -/
theorem run_ideal (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (Cert.KernelIdeal.threads (F := Ideal)) ⟨m, fun _ => 0, ρ⟩
      fun r => (∀ (c : Dev Cert.KernelIdeal.nD) (b : Ref Cert.KernelIdeal.sig .tc), b.isScoped = false →
        r.2.mem ((c.tc : Thread Cert.KernelIdeal.nD Cert.KernelIdeal.τ).loc b) = KernelIdealRun.V4r m c b) ∧ r.2.sem = fun _ => 0 :=
  KernelIdealRun.run m ρ (KernelIdealRun.ids_lt m fun d i => token_lt (hpre d) i)

theorem frame_ideal : Cert.quiescent_KernelIdeal := fun m ρ hpre =>
  (θ_run Cert.KernelIdeal.defs _ _).mono
    (fun _ h => ⟨fun c => by
      obtain ⟨h0, h1, h2, h3, h4, h5, h6, h7, h8, h9, h10, h11, h12⟩ := KernelIdealRun.args_kept m c
      exact ⟨(h.1 c _ rfl).trans h0, (h.1 c _ rfl).trans h1, (h.1 c _ rfl).trans h2, (h.1 c _ rfl).trans h3, (h.1 c _ rfl).trans h4,
        (h.1 c _ rfl).trans h5, (h.1 c _ rfl).trans h6, (h.1 c _ rfl).trans h7, (h.1 c _ rfl).trans h8, (h.1 c _ rfl).trans h9,
        (h.1 c _ rfl).trans h10, (h.1 c _ rfl).trans h11, (h.1 c _ rfl).trans h12⟩, h.2⟩)
    (run_ideal m ρ hpre)

/-- The reference runs, its arguments kept; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem frame_reference_pre : Cert.quiescent_ReferenceIdeal_pre_in_range := fun m ρ _ => frame_reference m ρ trivial

/-- At ideal floats, from memories that agree on the arguments, the kernel and the reference leave the same two results: the
    two heads of the arguments. -/
theorem algebraic : Cert.algebraic_KernelIdeal_ReferenceIdeal := by
  intro m ρ m' ρ' hpre hagree
  refine ⟨fun c (j : Cert.KernelIdeal.S1024x10.Idx) => Value.themeHead m c (j 0) (j 1),
    fun c (j : Cert.KernelIdeal.S1024x3.Idx) => Value.sentiHead m c (j 0) (j 1), ?_, ?_⟩
  · refine (θ_run Cert.KernelIdeal.defs _ _).mono (fun _ h c => ?_) (run_ideal m ρ hpre)
    obtain ⟨h0, h1, h2, h3, h4, h5, h6, h7, h8, h9, h10, h11, h12⟩ := KernelIdealRun.args_kept m c
    exact ⟨((h.1 c _ rfl).trans (KernelIdealRun.V4r_t m c)).trans (Value.tArr_eq m c),
      ((h.1 c _ rfl).trans (KernelIdealRun.V4r_s m c)).trans (Value.sArr_eq m c),
      (h.1 c _ rfl).trans h0, (h.1 c _ rfl).trans h1, (h.1 c _ rfl).trans h2, (h.1 c _ rfl).trans h3, (h.1 c _ rfl).trans h4,
      (h.1 c _ rfl).trans h5, (h.1 c _ rfl).trans h6, (h.1 c _ rfl).trans h7, (h.1 c _ rfl).trans h8, (h.1 c _ rfl).trans h9,
      (h.1 c _ rfl).trans h10, (h.1 c _ rfl).trans h11, (h.1 c _ rfl).trans h12⟩
  · refine (θ_run Cert.ReferenceIdeal.defs _ _).mono (fun _ h c => ?_) (Cert.ReferenceIdeal.Value.run (F := Ideal) m' ρ')
    obtain ⟨a0, a1, a2, a3, a4, a5, a6, a7, a8, a9, a10, a11, a12⟩ := hagree c
    have ht : ∀ i, (m' ((c.tc : Thread Cert.ReferenceIdeal.nD Cert.ReferenceIdeal.τ).loc Cert.ReferenceIdeal.main_arg0) i).toNat < 100000 := by
      rw [a0]
      exact fun i => token_lt (hpre c) i
    refine ⟨(h c).1.trans (funext fun (j : Cert.KernelIdeal.S1024x10.Idx) => ?_),
      (h c).2.1.trans (funext fun (j : Cert.KernelIdeal.S1024x3.Idx) => ?_), (h c).2.2⟩
    · obtain ⟨s, y, rfl⟩ : ∃ (s : Fin 1024) (y : Fin 10), j = ix2 s y := ⟨_, _, eq_ix2 j⟩
      refine (Value.theme_apply _ _ _ ht _ _ _ _ _ s y).trans ?_
      rw [a0, a1, a2, a4, a5, a6, a9, a10]
      rfl
    · obtain ⟨s, y, rfl⟩ : ∃ (s : Fin 1024) (y : Fin 3), j = ix2 s y := ⟨_, _, eq_ix2 j⟩
      refine (Value.senti_apply _ _ _ ht _ _ _ _ _ s y).trans ?_
      rw [a0, a1, a3, a4, a7, a8, a11, a12]
      rfl

theorem claim : Cert.Claim := ⟨Cert.Kernel.Gen.facts, Cert.KernelIdeal.Gen.facts, Cert.ReferenceIdeal.Gen.facts, Cert.Pre_in_range.Gen.facts,
  frame_kernel, frame_ideal, frame_reference, frame_reference_pre, trivial, algebraic⟩

end Cert.Proof

end
